-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "mask" .f32 0x7149F2CA#32 ⊤

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x2048x3 : Shape := ⟨3, ![8, 2048, 3]⟩
abbrev S8x2048x1 : Shape := ⟨3, ![8, 2048, 1]⟩
abbrev S8x2048 : Shape := ⟨2, ![8, 2048]⟩
abbrev S2048x8 : Shape := ⟨2, ![2048, 8]⟩
abbrev S8x128 : Shape := ⟨2, ![8, 128]⟩
abbrev S8x1 : Shape := ⟨2, ![8, 1]⟩
abbrev S8 : Shape := ⟨1, ![8]⟩
abbrev S_ : Shape := ⟨0, ![]⟩
abbrev S8x8x2048 : Shape := ⟨3, ![8, 8, 2048]⟩
abbrev S1x8x2048 : Shape := ⟨3, ![1, 8, 2048]⟩
abbrev S8x8 : Shape := ⟨2, ![8, 8]⟩
abbrev S8x8x1 : Shape := ⟨3, ![8, 8, 1]⟩
abbrev S1x8x1 : Shape := ⟨3, ![1, 8, 1]⟩
abbrev S1 : Shape := ⟨1, ![1]⟩
abbrev S1x1x1 : Shape := ⟨3, ![1, 1, 1]⟩

abbrev nBuf : Space → Nat
  | .hbm => 24
  | .vmem => 9
  | .smem => 0
  | _ => 0

abbrev bufTy : (tb : Table) → Fin (tcTables nBuf tb) → BufTy
  | .hbm, ⟨0, _⟩ => ⟨S8x2048x3, .f32⟩
  | .hbm, ⟨1, _⟩ => ⟨S8x2048x3, .f32⟩
  | .hbm, ⟨2, _⟩ => ⟨S8x2048x1, .f32⟩
  | .hbm, ⟨3, _⟩ => ⟨S8x2048, .f32⟩
  | .hbm, ⟨4, _⟩ => ⟨S2048x8, .f32⟩
  | .hbm, ⟨5, _⟩ => ⟨S8x2048x1, .f32⟩
  | .hbm, ⟨6, _⟩ => ⟨S8x2048, .f32⟩
  | .hbm, ⟨7, _⟩ => ⟨S2048x8, .f32⟩
  | .hbm, ⟨8, _⟩ => ⟨S8x2048x1, .f32⟩
  | .hbm, ⟨9, _⟩ => ⟨S8x2048, .f32⟩
  | .hbm, ⟨10, _⟩ => ⟨S2048x8, .f32⟩
  | .hbm, ⟨11, _⟩ => ⟨S8x2048x1, .f32⟩
  | .hbm, ⟨12, _⟩ => ⟨S8x2048, .f32⟩
  | .hbm, ⟨13, _⟩ => ⟨S8x2048x1, .f32⟩
  | .hbm, ⟨14, _⟩ => ⟨S8x2048, .f32⟩
  | .hbm, ⟨15, _⟩ => ⟨S8x2048x1, .f32⟩
  | .hbm, ⟨16, _⟩ => ⟨S8x2048, .f32⟩
  | .hbm, ⟨17, _⟩ => ⟨S8x128, .f32⟩
  | .hbm, ⟨18, _⟩ => ⟨S8x1, .f32⟩
  | .hbm, ⟨19, _⟩ => ⟨S8, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .local _ .vmem, ⟨0, _⟩ => ⟨S2048x8, .f32⟩
  | .local _ .vmem, ⟨1, _⟩ => ⟨S2048x8, .f32⟩
  | .local _ .vmem, ⟨2, _⟩ => ⟨S2048x8, .f32⟩
  | .local _ .vmem, ⟨3, _⟩ => ⟨S8x2048, .f32⟩
  | .local _ .vmem, ⟨4, _⟩ => ⟨S8x2048, .f32⟩
  | .local _ .vmem, ⟨5, _⟩ => ⟨S8x2048, .f32⟩
  | .local _ .vmem, ⟨6, _⟩ => ⟨S8x128, .f32⟩
  | .local _ .vmem, ⟨7, _⟩ => ⟨S8x8x2048, .f32⟩
  | .local _ .vmem, ⟨8, _⟩ => ⟨S8x8x2048, .f32⟩
  | _, _ => ⟨S8x2048x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_call0_v4 : Ref sig .tc := ⟨.hbm, 6, rfl⟩
abbrev main_call0_v5 : Ref sig .tc := ⟨.hbm, 7, rfl⟩
abbrev main_call0_v6 : Ref sig .tc := ⟨.hbm, 8, rfl⟩
abbrev main_call0_v7 : Ref sig .tc := ⟨.hbm, 9, rfl⟩
abbrev main_call0_v8 : Ref sig .tc := ⟨.hbm, 10, rfl⟩
abbrev main_call0_v9 : Ref sig .tc := ⟨.hbm, 11, rfl⟩
abbrev main_call0_v10 : Ref sig .tc := ⟨.hbm, 12, rfl⟩
abbrev main_call0_v11 : Ref sig .tc := ⟨.hbm, 13, rfl⟩
abbrev main_call0_v12 : Ref sig .tc := ⟨.hbm, 14, rfl⟩
abbrev main_call0_v13 : Ref sig .tc := ⟨.hbm, 15, rfl⟩
abbrev main_call0_v14 : Ref sig .tc := ⟨.hbm, 16, rfl⟩
abbrev main_call0_v15 : Ref sig .tc := ⟨.hbm, 17, rfl⟩
abbrev main_call0_v16 : Ref sig .tc := ⟨.hbm, 18, rfl⟩
abbrev main_call0_v17 : Ref sig .tc := ⟨.hbm, 19, rfl⟩
abbrev main_call0_cst : Ref sig .tc := ⟨.hbm, 20, rfl⟩
abbrev main_call0_v18 : Ref sig .tc := ⟨.hbm, 21, rfl⟩
abbrev main_call0_cst_0 : Ref sig .tc := ⟨.hbm, 22, rfl⟩
abbrev main_v0 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c128_i32 : BitVec 32 := 128#32
  let v39 : BitVec 32 := Scalar.addi c0_i32 c128_i32
  let c1_i32 : BitVec 32 := 1#32
  ⟨c0_i32, v39, c1_i32⟩
def k0_off1 (k0_t1 : Fin k0_t1_loop.trips) : Fin 2 → Nat :=
  let c0_i32 : BitVec 32 := 0#32
  let c1_i32 : BitVec 32 := 1#32
  let arg9 : BitVec 32 := Scf.iv c0_i32 c1_i32 k0_t1
  let c16_i32 : BitVec 32 := 16#32
  let v42 : BitVec 32 := Scalar.muli arg9 c16_i32
  let c8_i32 : BitVec 32 := 8#32
  let v43 : BitVec 32 := Scalar.addi v42 c8_i32
  let v44 : Index := Scalar.indexCast v43
  let c0_20 : Index := 0#32
  ![v44.toNat, 0]
def k0_off2 (k0_t1 : Fin k0_t1_loop.trips) : Fin 2 → Nat :=
  let c0_i32 : BitVec 32 := 0#32
  let c1_i32 : BitVec 32 := 1#32
  let arg9 : BitVec 32 := Scf.iv c0_i32 c1_i32 k0_t1
  let c16_i32 : BitVec 32 := 16#32
  let v42 : BitVec 32 := Scalar.muli arg9 c16_i32
  let c16_i32_94 : BitVec 32 := 16#32
  let v269 : BitVec 32 := Scalar.addi v42 c16_i32_94
  let c2040_i32 : BitVec 32 := 2040#32
  let v270 : BitVec 32 := Scalar.minsi v269 c2040_i32
  let v271 : Index := Scalar.indexCast v270
  let c0_95 : Index := 0#32
  ![v271.toNat, 0]
abbrev stage0_0 : Fin 1 → Memref sig .tc .vmem S2048x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== KernelIdeal.lean ====
variable {F : FTy → Type} [FloatOps F] [Named F]
def κ : String → Option EReal := fun
  | "mask" => some ⊤
  | _ => none
-- ==== ReferenceIdeal.lean ====
abbrev S8x2048x3 : Shape := ⟨3, ![8, 2048, 3]⟩
abbrev S8x2048x1x3 : Shape := ⟨4, ![8, 2048, 1, 3]⟩
abbrev S8x1x2048x3 : Shape := ⟨4, ![8, 1, 2048, 3]⟩
abbrev S8x2048x2048x3 : Shape := ⟨4, ![8, 2048, 2048, 3]⟩
abbrev S_ : Shape := ⟨0, ![]⟩
abbrev S8x2048x2048 : Shape := ⟨3, ![8, 2048, 2048]⟩
abbrev S8x2048 : Shape := ⟨2, ![8, 2048]⟩
abbrev S2048x8x2048 : Shape := ⟨3, ![2048, 8, 2048]⟩
abbrev S2048x8 : Shape := ⟨2, ![2048, 8]⟩
abbrev S1x8x2048 : Shape := ⟨3, ![1, 8, 2048]⟩
abbrev S8 : Shape := ⟨1, ![8]⟩
abbrev S2048 : Shape := ⟨1, ![2048]⟩
abbrev S8x1 : Shape := ⟨2, ![8, 1]⟩
abbrev S1x2048 : Shape := ⟨2, ![1, 2048]⟩
abbrev S1x8 : Shape := ⟨2, ![1, 8]⟩

abbrev nBuf : Space → Nat
  | .hbm => 58
  | .vmem => 0
  | .smem => 0
  | _ => 0

abbrev bufTy : (tb : Table) → Fin (tcTables nBuf tb) → BufTy
  | .hbm, ⟨0, _⟩ => ⟨S8x2048x3, .f32⟩
  | .hbm, ⟨1, _⟩ => ⟨S8x2048x3, .f32⟩
  | .hbm, ⟨2, _⟩ => ⟨S8x2048x1x3, .f32⟩
  | .hbm, ⟨3, _⟩ => ⟨S8x1x2048x3, .f32⟩
  | .hbm, ⟨4, _⟩ => ⟨S8x2048x2048x3, .f32⟩
  | .hbm, ⟨5, _⟩ => ⟨S8x2048x2048x3, .f32⟩
  | .hbm, ⟨6, _⟩ => ⟨S8x2048x2048x3, .f32⟩
  | .hbm, ⟨7, _⟩ => ⟨S8x2048x2048x3, .f32⟩
  | .hbm, ⟨8, _⟩ => ⟨S_, .f32⟩
  | .hbm, ⟨9, _⟩ => ⟨S8x2048x2048, .f32⟩
  | .hbm, ⟨10, _⟩ => ⟨S_, .i1⟩
  | .hbm, ⟨11, _⟩ => ⟨S8x2048, .i1⟩
  | .hbm, ⟨12, _⟩ => ⟨S2048x8x2048, .f32⟩
  | .hbm, ⟨13, _⟩ => ⟨S_, .f32⟩
  | .hbm, ⟨14, _⟩ => ⟨S2048x8, .f32⟩
  | .hbm, ⟨15, _⟩ => ⟨S_, .i32⟩
  | .hbm, ⟨16, _⟩ => ⟨S2048x8x2048, .f32⟩
  | .hbm, ⟨17, _⟩ => ⟨S_, .i32⟩
  | .hbm, ⟨18, _⟩ => ⟨S8x2048, .i1⟩
  | .hbm, ⟨19, _⟩ => ⟨S2048x8, .f32⟩
  | .hbm, ⟨20, _⟩ => ⟨S_, .i32⟩
  | .hbm, ⟨21, _⟩ => ⟨S_, .i1⟩
  | .hbm, ⟨22, _⟩ => ⟨S_, .i32⟩
  | .hbm, ⟨23, _⟩ => ⟨S_, .i32⟩
  | .hbm, ⟨24, _⟩ => ⟨S1x8x2048, .f32⟩
  | .hbm, ⟨25, _⟩ => ⟨S8x2048, .f32⟩
  | .hbm, ⟨26, _⟩ => ⟨S_, .f32⟩
  | .hbm, ⟨27, _⟩ => ⟨S_, .f32⟩
  | .hbm, ⟨28, _⟩ => ⟨S8x2048, .f32⟩
  | .hbm, ⟨29, _⟩ => ⟨S8x2048, .f32⟩
  | .hbm, ⟨30, _⟩ => ⟨S8x2048, .i32⟩
  | .hbm, ⟨31, _⟩ => ⟨S_, .f32⟩
  | .hbm, ⟨32, _⟩ => ⟨S_, .i32⟩
  | .hbm, ⟨33, _⟩ => ⟨S8, .f32⟩
  | .hbm, ⟨34, _⟩ => ⟨S8, .i32⟩
  | .hbm, ⟨35, _⟩ => ⟨S_, .f32⟩
  | .hbm, ⟨36, _⟩ => ⟨S8, .f32⟩
  | .hbm, ⟨37, _⟩ => ⟨S2048, .i32⟩
  | .hbm, ⟨38, _⟩ => ⟨S8x1, .i32⟩
  | .hbm, ⟨39, _⟩ => ⟨S1x2048, .i32⟩
  | .hbm, ⟨40, _⟩ => ⟨S8x2048, .i32⟩
  | .hbm, ⟨41, _⟩ => ⟨S8x2048, .i32⟩
  | .hbm, ⟨42, _⟩ => ⟨S8x2048, .i1⟩
  | .hbm, ⟨43, _⟩ => ⟨S8x2048, .i1⟩
  | .hbm, ⟨44, _⟩ => ⟨S1x8, .f32⟩
  | .hbm, ⟨45, _⟩ => ⟨S_, .i32⟩
  | .hbm, ⟨46, _⟩ => ⟨S2048x8, .f32⟩
  | .hbm, ⟨47, _⟩ => ⟨S_, .i32⟩
  | .hbm, ⟨48, _⟩ => ⟨S_, .i32⟩
  | .hbm, ⟨49, _⟩ => ⟨S_, .f32⟩
  | .hbm, ⟨50, _⟩ => ⟨S8, .f32⟩
  | .hbm, ⟨51, _⟩ => ⟨S_, .f32⟩
  | .hbm, ⟨52, _⟩ => ⟨S8, .f32⟩
  | .hbm, ⟨53, _⟩ => ⟨S8, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | _, _ => ⟨S8x2048x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_c : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_c_1 : Ref sig .tc := ⟨.hbm, 15, rfl⟩
abbrev main_v10_0 : Ref sig .tc := ⟨.hbm, 16, rfl⟩
abbrev main_v10_1 : Ref sig .tc := ⟨.hbm, 17, rfl⟩
abbrev main_v10_2 : Ref sig .tc := ⟨.hbm, 18, rfl⟩
abbrev main_v10_3 : Ref sig .tc := ⟨.hbm, 19, rfl⟩
abbrev main_while0c_c_9 : Ref sig .tc := ⟨.hbm, 20, rfl⟩
abbrev main_while0c_v16 : Ref sig .tc := ⟨.hbm, 21, rfl⟩
abbrev main_while0b_call0_c : Ref sig .tc := ⟨.hbm, 22, rfl⟩
abbrev main_while0b_call0_c_0 : Ref sig .tc := ⟨.hbm, 23, rfl⟩
abbrev main_while0b_call0_v0 : Ref sig .tc := ⟨.hbm, 24, rfl⟩
abbrev main_while0b_v16 : Ref sig .tc := ⟨.hbm, 25, rfl⟩
abbrev main_while0b_cst_9 : Ref sig .tc := ⟨.hbm, 26, rfl⟩
abbrev main_while0b_call1_v0 : Ref sig .tc := ⟨.hbm, 27, rfl⟩
abbrev main_while0b_call1_v1 : Ref sig .tc := ⟨.hbm, 28, rfl⟩
abbrev main_while0b_v17 : Ref sig .tc := ⟨.hbm, 29, rfl⟩
abbrev main_while0b_call2_v0 : Ref sig .tc := ⟨.hbm, 30, rfl⟩
abbrev main_while0b_call2_cst : Ref sig .tc := ⟨.hbm, 31, rfl⟩
abbrev main_while0b_call2_c : Ref sig .tc := ⟨.hbm, 32, rfl⟩
abbrev main_while0b_call2_v1_0 : Ref sig .tc := ⟨.hbm, 33, rfl⟩
abbrev main_while0b_v18 : Ref sig .tc := ⟨.hbm, 34, rfl⟩
abbrev main_while0b_cst_10 : Ref sig .tc := ⟨.hbm, 35, rfl⟩
abbrev main_while0b_v19 : Ref sig .tc := ⟨.hbm, 36, rfl⟩
abbrev main_while0b_v20 : Ref sig .tc := ⟨.hbm, 37, rfl⟩
abbrev main_while0b_v21 : Ref sig .tc := ⟨.hbm, 38, rfl⟩
abbrev main_while0b_v22 : Ref sig .tc := ⟨.hbm, 39, rfl⟩
abbrev main_while0b_v23 : Ref sig .tc := ⟨.hbm, 40, rfl⟩
abbrev main_while0b_v24 : Ref sig .tc := ⟨.hbm, 41, rfl⟩
abbrev main_while0b_v25 : Ref sig .tc := ⟨.hbm, 42, rfl⟩
abbrev main_while0b_v26 : Ref sig .tc := ⟨.hbm, 43, rfl⟩
abbrev main_while0b_call3_v0 : Ref sig .tc := ⟨.hbm, 44, rfl⟩
abbrev main_while0b_call3_c : Ref sig .tc := ⟨.hbm, 45, rfl⟩
abbrev main_while0b_v27 : Ref sig .tc := ⟨.hbm, 46, rfl⟩
abbrev main_while0b_c_11 : Ref sig .tc := ⟨.hbm, 47, rfl⟩
abbrev main_while0b_v28 : Ref sig .tc := ⟨.hbm, 48, rfl⟩
abbrev main_cst_2 : Ref sig .tc := ⟨.hbm, 49, rfl⟩
abbrev main_v11 : Ref sig .tc := ⟨.hbm, 50, rfl⟩
abbrev main_cst_3 : Ref sig .tc := ⟨.hbm, 51, rfl⟩
abbrev main_v12 : Ref sig .tc := ⟨.hbm, 52, rfl⟩
abbrev main_v13 : Ref sig .tc := ⟨.hbm, 53, rfl⟩
abbrev main_cst_4 : Ref sig .tc := ⟨.hbm, 54, rfl⟩
abbrev main_v14 : Ref sig .tc := ⟨.hbm, 55, rfl⟩
abbrev main_cst_5 : Ref sig .tc := ⟨.hbm, 56, rfl⟩
abbrev main_v15 : Ref sig .tc := ⟨.hbm, 57, rfl⟩

abbrev nD : Nat := 1
abbrev τ : Topo := Topo.v7x

variable {F : FTy → Type} [FloatOps F]

abbrev main_while0_count : Scf.Loop 32 := ⟨0#32, 2048#32, 1#32⟩
-- ==== Proof.KernelIdeal.Parts.lean ====
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Tactic
public import Idealize.ShloMosaic.Lib.VecWindow
public import Idealize.ShloMosaic.PureOps.BitExact

/-!
What each printed part of one trip of the kernel's loop returns and leaves in the two scratch buffers, and the conditional
of a group of four rows: a part that ends in one returns a choice between the conditional's two ways.
-/

@[expose] public section

noncomputable section

namespace Cert.Proof.KernelIdeal

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The proof's resource algebra: the frame kit's. -/
local notation "𝕄" => MT nD τ sig Unit (Elt F) ℕ (UR sig nD τ) ℕ

/-- No variants: the kernel starts no other thread. -/
abbrev 𝒱₀ : Variants := Variants.none

/-- Row 0 of a scratch buffer, for all batches. -/
def slab0 (a : Vec F S8x8x2048 .f32) : Vec F S1x8x2048 .f32 :=
  fun x => a ((Rect.unit (s := S8x8x2048) ![0, 0, 0] S1x8x2048.size inb_S8x8x2048_S1x8x2048_0_0_0).toLoadRect.idx x)

theorem slab0_eq (M : Memref sig .tc .vmem S8x8x2048 .f32) (f : M.view.ty.Contents (Elt F)) :
    slab0 (M.view.read (Elt F) f) = M.view.readAt (Elt F) (Rect.unit (s := S8x8x2048) ![0, 0, 0] S1x8x2048.size inb_S8x8x2048_S1x8x2048_0_0_0).toLoadRect f := rfl

/-- Row 1 of a scratch buffer, for all batches. -/
def slab1 (a : Vec F S8x8x2048 .f32) : Vec F S1x8x2048 .f32 :=
  fun x => a ((Rect.unit (s := S8x8x2048) ![1, 0, 0] S1x8x2048.size inb_S8x8x2048_S1x8x2048_1_0_0).toLoadRect.idx x)

theorem slab1_eq (M : Memref sig .tc .vmem S8x8x2048 .f32) (f : M.view.ty.Contents (Elt F)) :
    slab1 (M.view.read (Elt F) f) = M.view.readAt (Elt F) (Rect.unit (s := S8x8x2048) ![1, 0, 0] S1x8x2048.size inb_S8x8x2048_S1x8x2048_1_0_0).toLoadRect f := rfl

/-- Row 2 of a scratch buffer, for all batches. -/
def slab2 (a : Vec F S8x8x2048 .f32) : Vec F S1x8x2048 .f32 :=
  fun x => a ((Rect.unit (s := S8x8x2048) ![2, 0, 0] S1x8x2048.size inb_S8x8x2048_S1x8x2048_2_0_0).toLoadRect.idx x)

theorem slab2_eq (M : Memref sig .tc .vmem S8x8x2048 .f32) (f : M.view.ty.Contents (Elt F)) :
    slab2 (M.view.read (Elt F) f) = M.view.readAt (Elt F) (Rect.unit (s := S8x8x2048) ![2, 0, 0] S1x8x2048.size inb_S8x8x2048_S1x8x2048_2_0_0).toLoadRect f := rfl

/-- Row 3 of a scratch buffer, for all batches. -/
def slab3 (a : Vec F S8x8x2048 .f32) : Vec F S1x8x2048 .f32 :=
  fun x => a ((Rect.unit (s := S8x8x2048) ![3, 0, 0] S1x8x2048.size inb_S8x8x2048_S1x8x2048_3_0_0).toLoadRect.idx x)

theorem slab3_eq (M : Memref sig .tc .vmem S8x8x2048 .f32) (f : M.view.ty.Contents (Elt F)) :
    slab3 (M.view.read (Elt F) f) = M.view.readAt (Elt F) (Rect.unit (s := S8x8x2048) ![3, 0, 0] S1x8x2048.size inb_S8x8x2048_S1x8x2048_3_0_0).toLoadRect f := rfl

/-- Row 4 of a scratch buffer, for all batches. -/
def slab4 (a : Vec F S8x8x2048 .f32) : Vec F S1x8x2048 .f32 :=
  fun x => a ((Rect.unit (s := S8x8x2048) ![4, 0, 0] S1x8x2048.size inb_S8x8x2048_S1x8x2048_4_0_0).toLoadRect.idx x)

theorem slab4_eq (M : Memref sig .tc .vmem S8x8x2048 .f32) (f : M.view.ty.Contents (Elt F)) :
    slab4 (M.view.read (Elt F) f) = M.view.readAt (Elt F) (Rect.unit (s := S8x8x2048) ![4, 0, 0] S1x8x2048.size inb_S8x8x2048_S1x8x2048_4_0_0).toLoadRect f := rfl

/-- Row 5 of a scratch buffer, for all batches. -/
def slab5 (a : Vec F S8x8x2048 .f32) : Vec F S1x8x2048 .f32 :=
  fun x => a ((Rect.unit (s := S8x8x2048) ![5, 0, 0] S1x8x2048.size inb_S8x8x2048_S1x8x2048_5_0_0).toLoadRect.idx x)

theorem slab5_eq (M : Memref sig .tc .vmem S8x8x2048 .f32) (f : M.view.ty.Contents (Elt F)) :
    slab5 (M.view.read (Elt F) f) = M.view.readAt (Elt F) (Rect.unit (s := S8x8x2048) ![5, 0, 0] S1x8x2048.size inb_S8x8x2048_S1x8x2048_5_0_0).toLoadRect f := rfl

/-- Row 6 of a scratch buffer, for all batches. -/
def slab6 (a : Vec F S8x8x2048 .f32) : Vec F S1x8x2048 .f32 :=
  fun x => a ((Rect.unit (s := S8x8x2048) ![6, 0, 0] S1x8x2048.size inb_S8x8x2048_S1x8x2048_6_0_0).toLoadRect.idx x)

theorem slab6_eq (M : Memref sig .tc .vmem S8x8x2048 .f32) (f : M.view.ty.Contents (Elt F)) :
    slab6 (M.view.read (Elt F) f) = M.view.readAt (Elt F) (Rect.unit (s := S8x8x2048) ![6, 0, 0] S1x8x2048.size inb_S8x8x2048_S1x8x2048_6_0_0).toLoadRect f := rfl

/-- Row 7 of a scratch buffer, for all batches. -/
def slab7 (a : Vec F S8x8x2048 .f32) : Vec F S1x8x2048 .f32 :=
  fun x => a ((Rect.unit (s := S8x8x2048) ![7, 0, 0] S1x8x2048.size inb_S8x8x2048_S1x8x2048_7_0_0).toLoadRect.idx x)

theorem slab7_eq (M : Memref sig .tc .vmem S8x8x2048 .f32) (f : M.view.ty.Contents (Elt F)) :
    slab7 (M.view.read (Elt F) f) = M.view.readAt (Elt F) (Rect.unit (s := S8x8x2048) ![7, 0, 0] S1x8x2048.size inb_S8x8x2048_S1x8x2048_7_0_0).toLoadRect f := rfl

/-- The eight rows of `x` that trip `k` loads for its second buffer. -/
def block1 (k : Fin k0_t1_loop.trips) (x : Vec F S2048x8 .f32) : Vec F S8x8 .f32 :=
  fun y => x ((Rect.unit (s := S2048x8) (k0_off1 k) S8x8.size (k0_off1_inb k)).toLoadRect.idx y)

theorem block1_eq (k : Fin k0_t1_loop.trips) (M : Memref sig .tc .vmem S2048x8 .f32) (f : M.view.ty.Contents (Elt F)) :
    block1 k (M.view.read (Elt F) f) = M.view.readAt (Elt F) (Rect.unit (s := S2048x8) (k0_off1 k) S8x8.size (k0_off1_inb k)).toLoadRect f := rfl

/-- The eight rows of `x` that trip `k` loads for its next trip's first buffer. -/
def block2 (k : Fin k0_t1_loop.trips) (x : Vec F S2048x8 .f32) : Vec F S8x8 .f32 :=
  fun y => x ((Rect.unit (s := S2048x8) (k0_off2 k) S8x8.size (k0_off2_inb k)).toLoadRect.idx y)

theorem block2_eq (k : Fin k0_t1_loop.trips) (M : Memref sig .tc .vmem S2048x8 .f32) (f : M.view.ty.Contents (Elt F)) :
    block2 k (M.view.read (Elt F) f) = M.view.readAt (Elt F) (Rect.unit (s := S2048x8) (k0_off2 k) S8x8.size (k0_off2_inb k)).toLoadRect f := rfl

/-- Whether the conditional on the number `v` takes its first way. -/
abbrev taken (v : F .f32) : Prop :=
  Scalar.cmpi .ne (Scalar.extui (Scalar.cmpf .ogt v (Scalar.ofBits .f32 0x00000000#32)) : BitVec 32) 0#32 = 1#1

/-- The conditional's choice. -/
def pick {α : Type} (v : F .f32) (x y : α) : α := if taken v then x else y

/-- The buffers a trip works on: the three coordinate columns, and the two scratch buffers. -/
def held (c : Dev nD) (arg0 arg1 arg2 : Memref sig .tc .vmem S2048x8 .f32) (arg7 arg8 : Memref sig .tc .vmem S8x8x2048 .f32)
    (x0 x1 x2 : Vec F S2048x8 .f32) (a b : Vec F S8x8x2048 .f32) : sProp 𝕄 :=
  iprop(owns (c : Thread nD τ) arg0 fullShare x0 ∗ owns (c : Thread nD τ) arg1 fullShare x1 ∗ owns (c : Thread nD τ) arg2 fullShare x2
    ∗ owns (c : Thread nD τ) arg7 fullShare a ∗ owns (c : Thread nD τ) arg8 fullShare b)

/-- A program that returns at once. -/
theorem pure_run {α : Type} (c : Dev nD) (r : α) (P : sProp 𝕄) (K : α → sProp 𝕄) :
    iprop(P ∗ (P -∗ K r)) ⊢ wp frame (wpE (defs₀ (F := F)) 𝒱₀ c none) Set.univ (pure r : Prog (TpuEff nD τ sig (Elt F) Λ₀ .tc) α) K := by
  iintro ⟨H, Hk⟩
  sl_step
  iapply Hk
  iexact H

/-- Running `p` and then going on from what it returns. -/
theorem bind_run {α β : Type} (c : Dev nD) {p : Prog (TpuEff nD τ sig (Elt F) Λ₀ .tc) α} {f : α → Prog (TpuEff nD τ sig (Elt F) Λ₀ .tc) β}
    {P P' Q : sProp 𝕄} {r : α} {K : β → sProp 𝕄}
    (h : ∀ K : α → sProp 𝕄, iprop(P ∗ (P' -∗ K r)) ⊢ wp frame (wpE (defs₀ (F := F)) 𝒱₀ c none) Set.univ p K)
    (h2 : iprop(P' ∗ Q) ⊢ wp frame (wpE (defs₀ (F := F)) 𝒱₀ c none) Set.univ (f r) K) :
    iprop(P ∗ Q) ⊢ wp frame (wpE (defs₀ (F := F)) 𝒱₀ c none) Set.univ (p >>= f) K := by
  rw [wp_bind]
  refine .trans ?_ (h _)
  iintro ⟨H, HQ⟩
  isplitl [H]
  · iexact H
  · iintro H'
    iapply h2
    isplitl [H']
    · iexact H'
    · iexact HQ

section Parts

variable (arg0 : Memref sig .tc .vmem S2048x8 .f32) (harg0 : arg0.IsWhole) (arg1 : Memref sig .tc .vmem S2048x8 .f32) (harg1 : arg1.IsWhole)
  (arg2 : Memref sig .tc .vmem S2048x8 .f32) (harg2 : arg2.IsWhole) (arg3 : Memref sig .tc .vmem S8x2048 .f32) (harg3 : arg3.IsWhole)
  (arg4 : Memref sig .tc .vmem S8x2048 .f32) (harg4 : arg4.IsWhole) (arg5 : Memref sig .tc .vmem S8x2048 .f32) (harg5 : arg5.IsWhole)
  (arg6 : Memref sig .tc .vmem S8x128 .f32) (harg6 : arg6.IsWhole) (arg7 : Memref sig .tc .vmem S8x8x2048 .f32) (harg7 : arg7.IsWhole)
  (arg8 : Memref sig .tc .vmem S8x8x2048 .f32) (harg8 : arg8.IsWhole)

/-- A load from the first scratch buffer. -/
theorem load7_run (c : Dev nD) (off : Fin 3 → ℕ) (inb : ∀ i, off i + S1x8x2048.size i ≤ S8x8x2048.size i)
    (hl : arg7.view.LoadsAt (Rect.unit (s := S8x8x2048) off S1x8x2048.size inb).toLoadRect)
    (x0 x1 x2 : Vec F S2048x8 .f32) (a b : Vec F S8x8x2048 .f32)
    (s : Vec F S1x8x2048 .f32) (hs : s = fun y => a ((Rect.unit (s := S8x8x2048) off S1x8x2048.size inb).toLoadRect.idx y))
    (K : Vec F S1x8x2048 .f32 → sProp 𝕄) :
    iprop(held c arg0 arg1 arg2 arg7 arg8 x0 x1 x2 a b ∗ (held c arg0 arg1 arg2 arg7 arg8 x0 x1 x2 a b -∗ K s))
      ⊢ wp frame (wpE (defs₀ (F := F)) 𝒱₀ c none) Set.univ (Prog.lift (.load arg7 (Rect.unit (s := S8x8x2048) off S1x8x2048.size inb).toLoadRect hl) : Prog (TpuEff nD τ sig (Elt F) Λ₀ .tc) (Vec F S1x8x2048 .f32)) K := by
  unfold held owns
  iintro ⟨⟨⟨%f0, %hf0, H0⟩, ⟨%f1, %hf1, H1⟩, ⟨%f2, %hf2, H2⟩, ⟨%f7, %hf7, H7⟩, ⟨%f8, %hf8, H8⟩⟩, Hk⟩
  subst hf0 hf1 hf2 hf7 hf8
  rw [show s = arg7.view.readAt (Elt F) (Rect.unit (s := S8x8x2048) off S1x8x2048.size inb).toLoadRect f7 from hs]
  sl_exec
  sl_step
  iapply Hk
  isplitl [H0]
  · iexists _; isplitr [H0]
    · ipureintro; rfl
    · iexact H0
  isplitl [H1]
  · iexists _; isplitr [H1]
    · ipureintro; rfl
    · iexact H1
  isplitl [H2]
  · iexists _; isplitr [H2]
    · ipureintro; rfl
    · iexact H2
  isplitl [H7]
  · iexists _; isplitr [H7]
    · ipureintro; rfl
    · iexact H7
  · iexists _; isplitr [H8]
    · ipureintro; rfl
    · iexact H8
/-- A load from the second scratch buffer. -/
theorem load8_run (c : Dev nD) (off : Fin 3 → ℕ) (inb : ∀ i, off i + S1x8x2048.size i ≤ S8x8x2048.size i)
    (hl : arg8.view.LoadsAt (Rect.unit (s := S8x8x2048) off S1x8x2048.size inb).toLoadRect)
    (x0 x1 x2 : Vec F S2048x8 .f32) (a b : Vec F S8x8x2048 .f32)
    (s : Vec F S1x8x2048 .f32) (hs : s = fun y => b ((Rect.unit (s := S8x8x2048) off S1x8x2048.size inb).toLoadRect.idx y))
    (K : Vec F S1x8x2048 .f32 → sProp 𝕄) :
    iprop(held c arg0 arg1 arg2 arg7 arg8 x0 x1 x2 a b ∗ (held c arg0 arg1 arg2 arg7 arg8 x0 x1 x2 a b -∗ K s))
      ⊢ wp frame (wpE (defs₀ (F := F)) 𝒱₀ c none) Set.univ (Prog.lift (.load arg8 (Rect.unit (s := S8x8x2048) off S1x8x2048.size inb).toLoadRect hl) : Prog (TpuEff nD τ sig (Elt F) Λ₀ .tc) (Vec F S1x8x2048 .f32)) K := by
  unfold held owns
  iintro ⟨⟨⟨%f0, %hf0, H0⟩, ⟨%f1, %hf1, H1⟩, ⟨%f2, %hf2, H2⟩, ⟨%f7, %hf7, H7⟩, ⟨%f8, %hf8, H8⟩⟩, Hk⟩
  subst hf0 hf1 hf2 hf7 hf8
  rw [show s = arg8.view.readAt (Elt F) (Rect.unit (s := S8x8x2048) off S1x8x2048.size inb).toLoadRect f8 from hs]
  sl_exec
  sl_step
  iapply Hk
  isplitl [H0]
  · iexists _; isplitr [H0]
    · ipureintro; rfl
    · iexact H0
  isplitl [H1]
  · iexists _; isplitr [H1]
    · ipureintro; rfl
    · iexact H1
  isplitl [H2]
  · iexists _; isplitr [H2]
    · ipureintro; rfl
    · iexact H2
  isplitl [H7]
  · iexists _; isplitr [H7]
    · ipureintro; rfl
    · iexact H7
  · iexists _; isplitr [H8]
    · ipureintro; rfl
    · iexact H8
/-- What part 1 of the printed trip returns, and what it leaves in the two buffers. -/
theorem part1_run (c : Dev nD) (v1 : FVec F S8x2048 .f32) (cst_15 : F .f32) (cst_16 : F .f32) (arg10 : FVec F S8x2048 .f32) (v101 : FVec F S8x1 .f32) (x0 x1 x2 : Vec F S2048x8 .f32) (a b : Vec F S8x8x2048 .f32) (K : (Σ' (v504 : FVec F S8x1 .f32) (v510 : FVec F S8x1 .f32) (v519 : FVec F S8x1 .f32) (v525 : FVec F S8x1 .f32) (v534 : FVec F S8x1 .f32), FVec F S8x1 .f32) → sProp 𝕄) :
    iprop(held c arg0 arg1 arg2 arg7 arg8 x0 x1 x2 a b ∗ (held c arg0 arg1 arg2 arg7 arg8 x0 x1 x2 a b -∗
        K ⟨k0_pay6 v1 cst_16 arg10 v101 (slab1 a), k0_pay7 v1 cst_15 cst_16 arg10 v101 (slab1 a), k0_pay10 v1 cst_15 cst_16 arg10 v101 (slab1 a) (slab2 a), k0_pay11 v1 cst_15 cst_16 arg10 v101 (slab1 a) (slab2 a), k0_pay13 v1 cst_15 cst_16 arg10 v101 (slab1 a) (slab2 a) (slab3 a), k0_pay14 v1 cst_15 cst_16 arg10 v101 (slab1 a) (slab2 a) (slab3 a)⟩))
      ⊢ wp frame (wpE (defs₀ (F := F)) 𝒱₀ c none) Set.univ (k0_part1 (F := F) arg0 harg0 arg1 harg1 arg2 harg2 arg3 harg3 arg4 harg4 arg5 harg5 arg6 harg6 arg7 harg7 arg8 harg8 v1 cst_15 cst_16 arg10 v101) K := by
  unfold held owns
  iintro ⟨⟨⟨%f0, %hf0, H0⟩, ⟨%f1, %hf1, H1⟩, ⟨%f2, %hf2, H2⟩, ⟨%f7, %hf7, H7⟩, ⟨%f8, %hf8, H8⟩⟩, Hk⟩
  subst hf0 hf1 hf2 hf7 hf8
  simp only [slab0_eq, slab1_eq, slab2_eq, slab3_eq, slab4_eq, slab5_eq, slab6_eq, slab7_eq, block1_eq, block2_eq]
  rw [k0_part1_eq_skeleton]; unfold k0_part1_skel
  sl_exec
  sl_step
  iapply Hk
  isplitl [H0]
  · iexists _; isplitr [H0]; rotate_left
    · iexact H0
    · ipureintro; rfl
  isplitl [H1]
  · iexists _; isplitr [H1]; rotate_left
    · iexact H1
    · ipureintro; rfl
  isplitl [H2]
  · iexists _; isplitr [H2]; rotate_left
    · iexact H2
    · ipureintro; rfl
  isplitl [H7]
  · iexists _; isplitr [H7]; rotate_left
    · iexact H7
    · ipureintro; rfl
  · iexists _; isplitr [H8]; rotate_left
    · iexact H8
    · ipureintro; rfl

/-- What part 2 of the printed trip returns, and what it leaves in the two buffers. -/
theorem part2_run (c : Dev nD) (v1 : FVec F S8x2048 .f32) (cst_15 : F .f32) (cst_16 : F .f32) (v168 : FVec F S8x2048 .f32) (v199 : FVec F S8x1 .f32) (x0 x1 x2 : Vec F S2048x8 .f32) (a b : Vec F S8x8x2048 .f32) (K : (Σ' (v504 : FVec F S8x1 .f32) (v510 : FVec F S8x1 .f32) (v519 : FVec F S8x1 .f32) (v525 : FVec F S8x1 .f32) (v534 : FVec F S8x1 .f32), FVec F S8x1 .f32) → sProp 𝕄) :
    iprop(held c arg0 arg1 arg2 arg7 arg8 x0 x1 x2 a b ∗ (held c arg0 arg1 arg2 arg7 arg8 x0 x1 x2 a b -∗
        K ⟨k0_pay17 v1 cst_16 v168 v199 (slab5 a), k0_pay18 v1 cst_15 cst_16 v168 v199 (slab5 a), k0_pay21 v1 cst_15 cst_16 v168 v199 (slab5 a) (slab6 a), k0_pay22 v1 cst_15 cst_16 v168 v199 (slab5 a) (slab6 a), k0_pay24 v1 cst_15 cst_16 v168 v199 (slab5 a) (slab6 a) (slab7 a), k0_pay25 v1 cst_15 cst_16 v168 v199 (slab5 a) (slab6 a) (slab7 a)⟩))
      ⊢ wp frame (wpE (defs₀ (F := F)) 𝒱₀ c none) Set.univ (k0_part2 (F := F) arg0 harg0 arg1 harg1 arg2 harg2 arg3 harg3 arg4 harg4 arg5 harg5 arg6 harg6 arg7 harg7 arg8 harg8 v1 cst_15 cst_16 v168 v199) K := by
  unfold held owns
  iintro ⟨⟨⟨%f0, %hf0, H0⟩, ⟨%f1, %hf1, H1⟩, ⟨%f2, %hf2, H2⟩, ⟨%f7, %hf7, H7⟩, ⟨%f8, %hf8, H8⟩⟩, Hk⟩
  subst hf0 hf1 hf2 hf7 hf8
  simp only [slab0_eq, slab1_eq, slab2_eq, slab3_eq, slab4_eq, slab5_eq, slab6_eq, slab7_eq, block1_eq, block2_eq]
  rw [k0_part2_eq_skeleton]; unfold k0_part2_skel
  sl_exec
  sl_step
  iapply Hk
  isplitl [H0]
  · iexists _; isplitr [H0]; rotate_left
    · iexact H0
    · ipureintro; rfl
  isplitl [H1]
  · iexists _; isplitr [H1]; rotate_left
    · iexact H1
    · ipureintro; rfl
  isplitl [H2]
  · iexists _; isplitr [H2]; rotate_left
    · iexact H2
    · ipureintro; rfl
  isplitl [H7]
  · iexists _; isplitr [H7]; rotate_left
    · iexact H7
    · ipureintro; rfl
  · iexists _; isplitr [H8]; rotate_left
    · iexact H8
    · ipureintro; rfl

/-- What part 3 of the printed trip returns, and what it leaves in the two buffers. -/
theorem part3_run (c : Dev nD) (v1 : FVec F S8x2048 .f32) (cst_15 : F .f32) (cst_16 : F .f32) (v266 : FVec F S8x2048 .f32) (v328 : FVec F S8x1 .f32) (x0 x1 x2 : Vec F S2048x8 .f32) (a b : Vec F S8x8x2048 .f32) (K : (Σ' (v504 : FVec F S8x1 .f32) (v510 : FVec F S8x1 .f32) (v519 : FVec F S8x1 .f32) (v525 : FVec F S8x1 .f32) (v534 : FVec F S8x1 .f32), FVec F S8x1 .f32) → sProp 𝕄) :
    iprop(held c arg0 arg1 arg2 arg7 arg8 x0 x1 x2 a b ∗ (held c arg0 arg1 arg2 arg7 arg8 x0 x1 x2 a b -∗
        K ⟨k0_pay28 v1 cst_16 v266 v328 (slab1 b), k0_pay29 v1 cst_15 cst_16 v266 v328 (slab1 b), k0_pay32 v1 cst_15 cst_16 v266 v328 (slab1 b) (slab2 b), k0_pay33 v1 cst_15 cst_16 v266 v328 (slab1 b) (slab2 b), k0_pay35 v1 cst_15 cst_16 v266 v328 (slab1 b) (slab2 b) (slab3 b), k0_pay36 v1 cst_15 cst_16 v266 v328 (slab1 b) (slab2 b) (slab3 b)⟩))
      ⊢ wp frame (wpE (defs₀ (F := F)) 𝒱₀ c none) Set.univ (k0_part3 (F := F) arg0 harg0 arg1 harg1 arg2 harg2 arg3 harg3 arg4 harg4 arg5 harg5 arg6 harg6 arg7 harg7 arg8 harg8 v1 cst_15 cst_16 v266 v328) K := by
  unfold held owns
  iintro ⟨⟨⟨%f0, %hf0, H0⟩, ⟨%f1, %hf1, H1⟩, ⟨%f2, %hf2, H2⟩, ⟨%f7, %hf7, H7⟩, ⟨%f8, %hf8, H8⟩⟩, Hk⟩
  subst hf0 hf1 hf2 hf7 hf8
  simp only [slab0_eq, slab1_eq, slab2_eq, slab3_eq, slab4_eq, slab5_eq, slab6_eq, slab7_eq, block1_eq, block2_eq]
  rw [k0_part3_eq_skeleton]; unfold k0_part3_skel
  sl_exec
  sl_step
  iapply Hk
  isplitl [H0]
  · iexists _; isplitr [H0]; rotate_left
    · iexact H0
    · ipureintro; rfl
  isplitl [H1]
  · iexists _; isplitr [H1]; rotate_left
    · iexact H1
    · ipureintro; rfl
  isplitl [H2]
  · iexists _; isplitr [H2]; rotate_left
    · iexact H2
    · ipureintro; rfl
  isplitl [H7]
  · iexists _; isplitr [H7]; rotate_left
    · iexact H7
    · ipureintro; rfl
  · iexists _; isplitr [H8]; rotate_left
    · iexact H8
    · ipureintro; rfl

/-- What part 4 of the printed trip returns, and what it leaves in the two buffers. -/
theorem part4_run (c : Dev nD) (v1 : FVec F S8x2048 .f32) (cst_15 : F .f32) (cst_16 : F .f32) (v395 : FVec F S8x2048 .f32) (v426 : FVec F S8x1 .f32) (x0 x1 x2 : Vec F S2048x8 .f32) (a b : Vec F S8x8x2048 .f32) (K : (Σ' (v504 : FVec F S8x1 .f32) (v510 : FVec F S8x1 .f32) (v519 : FVec F S8x1 .f32) (v525 : FVec F S8x1 .f32) (v534 : FVec F S8x1 .f32), FVec F S8x1 .f32) → sProp 𝕄) :
    iprop(held c arg0 arg1 arg2 arg7 arg8 x0 x1 x2 a b ∗ (held c arg0 arg1 arg2 arg7 arg8 x0 x1 x2 a b -∗
        K ⟨k0_pay39 v1 cst_16 v395 v426 (slab5 b), k0_pay40 v1 cst_15 cst_16 v395 v426 (slab5 b), k0_pay43 v1 cst_15 cst_16 v395 v426 (slab5 b) (slab6 b), k0_pay44 v1 cst_15 cst_16 v395 v426 (slab5 b) (slab6 b), k0_pay46 v1 cst_15 cst_16 v395 v426 (slab5 b) (slab6 b) (slab7 b), k0_pay47 v1 cst_15 cst_16 v395 v426 (slab5 b) (slab6 b) (slab7 b)⟩))
      ⊢ wp frame (wpE (defs₀ (F := F)) 𝒱₀ c none) Set.univ (k0_part4 (F := F) arg0 harg0 arg1 harg1 arg2 harg2 arg3 harg3 arg4 harg4 arg5 harg5 arg6 harg6 arg7 harg7 arg8 harg8 v1 cst_15 cst_16 v395 v426) K := by
  unfold held owns
  iintro ⟨⟨⟨%f0, %hf0, H0⟩, ⟨%f1, %hf1, H1⟩, ⟨%f2, %hf2, H2⟩, ⟨%f7, %hf7, H7⟩, ⟨%f8, %hf8, H8⟩⟩, Hk⟩
  subst hf0 hf1 hf2 hf7 hf8
  simp only [slab0_eq, slab1_eq, slab2_eq, slab3_eq, slab4_eq, slab5_eq, slab6_eq, slab7_eq, block1_eq, block2_eq]
  rw [k0_part4_eq_skeleton]; unfold k0_part4_skel
  sl_exec
  sl_step
  iapply Hk
  isplitl [H0]
  · iexists _; isplitr [H0]; rotate_left
    · iexact H0
    · ipureintro; rfl
  isplitl [H1]
  · iexists _; isplitr [H1]; rotate_left
    · iexact H1
    · ipureintro; rfl
  isplitl [H2]
  · iexists _; isplitr [H2]; rotate_left
    · iexact H2
    · ipureintro; rfl
  isplitl [H7]
  · iexists _; isplitr [H7]; rotate_left
    · iexact H7
    · ipureintro; rfl
  · iexists _; isplitr [H8]; rotate_left
    · iexact H8
    · ipureintro; rfl

/-- What part 5 of the printed trip returns, and what it leaves in the two buffers. -/
theorem part5_run (c : Dev nD) (v4 : FVec F S1x8x2048 .f32) (v7 : FVec F S1x8x2048 .f32) (v10 : FVec F S1x8x2048 .f32) (c0_i32 : BitVec 32) (c1_i32 : BitVec 32) (k0_t1 : Fin k0_t1_loop.trips) (arg10 : FVec F S8x2048 .f32) (x0 x1 x2 : Vec F S2048x8 .f32) (a b : Vec F S8x8x2048 .f32) (K : (Σ' (v42 : BitVec 32) (v77 : FVec F S8x1 .f32), FVec F S8x1 .f32) → sProp 𝕄) :
    iprop(held c arg0 arg1 arg2 arg7 arg8 x0 x1 x2 a b ∗ (held c arg0 arg1 arg2 arg7 arg8 x0 x1 x2 a (k0_pay48 v4 v7 v10 (block1 k0_t1 x0) (block1 k0_t1 x1) (block1 k0_t1 x2)) -∗
        K ⟨Scalar.muli (Scf.iv c0_i32 c1_i32 k0_t1) 16#32, k0_pay49 arg10 (slab0 a), k0_pay50 arg10 (slab1 a)⟩))
      ⊢ wp frame (wpE (defs₀ (F := F)) 𝒱₀ c none) Set.univ (k0_part5 (F := F) arg0 harg0 arg1 harg1 arg2 harg2 arg3 harg3 arg4 harg4 arg5 harg5 arg6 harg6 arg7 harg7 arg8 harg8 v4 v7 v10 c0_i32 c1_i32 k0_t1 arg10) K := by
  unfold held owns
  iintro ⟨⟨⟨%f0, %hf0, H0⟩, ⟨%f1, %hf1, H1⟩, ⟨%f2, %hf2, H2⟩, ⟨%f7, %hf7, H7⟩, ⟨%f8, %hf8, H8⟩⟩, Hk⟩
  subst hf0 hf1 hf2 hf7 hf8
  simp only [slab0_eq, slab1_eq, slab2_eq, slab3_eq, slab4_eq, slab5_eq, slab6_eq, slab7_eq, block1_eq, block2_eq]
  rw [k0_part5_eq_skeleton]; unfold k0_part5_skel
  sl_exec
  sl_step
  delta part5_run.sl.v42 part5_run.sl.arg9
  iapply Hk
  isplitl [H0]
  · iexists _; isplitr [H0]; rotate_left
    · iexact H0
    · ipureintro; rfl
  isplitl [H1]
  · iexists _; isplitr [H1]; rotate_left
    · iexact H1
    · ipureintro; rfl
  isplitl [H2]
  · iexists _; isplitr [H2]; rotate_left
    · iexact H2
    · ipureintro; rfl
  isplitl [H7]
  · iexists _; isplitr [H7]; rotate_left
    · iexact H7
    · ipureintro; rfl
  · iexists _; isplitr [H8]; rotate_left
    · iexact H8
    · ipureintro; exact View.read_writes_full _ _ _ _ _

/-- What part 6 of the printed trip returns, and what it leaves in the two buffers. -/
theorem part6_run (c : Dev nD) (v1 : FVec F S8x2048 .f32) (cst_15 : F .f32) (arg10 : FVec F S8x2048 .f32) (v77 : FVec F S8x1 .f32) (v82 : FVec F S8x1 .f32) (x0 x1 x2 : Vec F S2048x8 .f32) (a b : Vec F S8x8x2048 .f32) (K : (Σ' (v87 : FVec F S8x1 .f32) (v92 : FVec F S8x1 .f32) (v101 : FVec F S8x1 .f32) (v110 : FVec F S8x1 .f32) (v119 : FVec F S8x1 .f32), Vec F S1x8x2048 .f32) → sProp 𝕄) :
    iprop(held c arg0 arg1 arg2 arg7 arg8 x0 x1 x2 a b ∗ (held c arg0 arg1 arg2 arg7 arg8 x0 x1 x2 a b -∗
        K ⟨k0_pay51 arg10 (slab2 a), k0_pay52 arg10 (slab3 a), k0_pay53 v1 cst_15 arg10 v77 (slab0 a), k0_pay54 v1 cst_15 arg10 v82 (slab1 a), k0_pay55 v1 cst_15 arg10 (slab2 a) (slab2 a), (slab3 a)⟩))
      ⊢ wp frame (wpE (defs₀ (F := F)) 𝒱₀ c none) Set.univ (k0_part6 (F := F) arg0 harg0 arg1 harg1 arg2 harg2 arg3 harg3 arg4 harg4 arg5 harg5 arg6 harg6 arg7 harg7 arg8 harg8 v1 cst_15 arg10 v77 v82) K := by
  unfold held owns
  iintro ⟨⟨⟨%f0, %hf0, H0⟩, ⟨%f1, %hf1, H1⟩, ⟨%f2, %hf2, H2⟩, ⟨%f7, %hf7, H7⟩, ⟨%f8, %hf8, H8⟩⟩, Hk⟩
  subst hf0 hf1 hf2 hf7 hf8
  simp only [slab0_eq, slab1_eq, slab2_eq, slab3_eq, slab4_eq, slab5_eq, slab6_eq, slab7_eq, block1_eq, block2_eq]
  rw [k0_part6_eq_skeleton]; unfold k0_part6_skel
  sl_exec
  sl_step
  iapply Hk
  isplitl [H0]
  · iexists _; isplitr [H0]; rotate_left
    · iexact H0
    · ipureintro; rfl
  isplitl [H1]
  · iexists _; isplitr [H1]; rotate_left
    · iexact H1
    · ipureintro; rfl
  isplitl [H2]
  · iexists _; isplitr [H2]; rotate_left
    · iexact H2
    · ipureintro; rfl
  isplitl [H7]
  · iexists _; isplitr [H7]; rotate_left
    · iexact H7
    · ipureintro; rfl
  · iexists _; isplitr [H8]; rotate_left
    · iexact H8
    · ipureintro; rfl

/-- What part 7 of the printed trip returns, and what it leaves in the two buffers. -/
theorem part7_run (c : Dev nD) (v1 : FVec F S8x2048 .f32) (cst_15 : F .f32) (cst_16 : F .f32) (arg10 : FVec F S8x2048 .f32) (arg11 : FVec F S8x128 .f32) (v77 : FVec F S8x1 .f32) (v82 : FVec F S8x1 .f32) (v87 : FVec F S8x1 .f32) (v92 : FVec F S8x1 .f32) (v101 : FVec F S8x1 .f32) (v110 : FVec F S8x1 .f32) (v119 : FVec F S8x1 .f32) (v120 : Vec F S1x8x2048 .f32) (x0 x1 x2 : Vec F S2048x8 .f32) (a b : Vec F S8x8x2048 .f32) (K : (Σ' (v168 : FVec F S8x2048 .f32), FVec F S8x128 .f32) → sProp 𝕄) :
    iprop(held c arg0 arg1 arg2 arg7 arg8 x0 x1 x2 a b ∗ (held c arg0 arg1 arg2 arg7 arg8 x0 x1 x2 a b -∗
        K ⟨k0_pay58 v1 cst_16 arg10 v101 (pick (k0_pay57 v1 cst_15 arg10 v92 v101 v110 v119 v120) (k0_pay7 v1 cst_15 cst_16 arg10 v101 (slab1 a)) (v110)) (pick (k0_pay57 v1 cst_15 arg10 v92 v101 v110 v119 v120) (k0_pay11 v1 cst_15 cst_16 arg10 v101 (slab1 a) (slab2 a)) (v119)) (pick (k0_pay57 v1 cst_15 arg10 v92 v101 v110 v119 v120) (k0_pay14 v1 cst_15 cst_16 arg10 v101 (slab1 a) (slab2 a) (slab3 a)) (k0_pay56 v1 cst_15 arg10 v92 v120)), k0_pay59 arg11 v77 (pick (k0_pay57 v1 cst_15 arg10 v92 v101 v110 v119 v120) (k0_pay6 v1 cst_16 arg10 v101 (slab1 a)) (v82)) (pick (k0_pay57 v1 cst_15 arg10 v92 v101 v110 v119 v120) (k0_pay10 v1 cst_15 cst_16 arg10 v101 (slab1 a) (slab2 a)) (v87)) (pick (k0_pay57 v1 cst_15 arg10 v92 v101 v110 v119 v120) (k0_pay13 v1 cst_15 cst_16 arg10 v101 (slab1 a) (slab2 a) (slab3 a)) (v92))⟩))
      ⊢ wp frame (wpE (defs₀ (F := F)) 𝒱₀ c none) Set.univ (k0_part7 (F := F) arg0 harg0 arg1 harg1 arg2 harg2 arg3 harg3 arg4 harg4 arg5 harg5 arg6 harg6 arg7 harg7 arg8 harg8 v1 cst_15 cst_16 arg10 arg11 v77 v82 v87 v92 v101 v110 v119 v120) K := by
  rw [k0_part7_eq_skeleton]; unfold k0_part7_skel
  dsimp only
  by_cases h : taken (k0_pay57 v1 cst_15 arg10 v92 v101 v110 v119 v120)
  · simp only [pick, if_pos h]
    refine bind_run c (part1_run arg0 harg0 arg1 harg1 arg2 harg2 arg3 harg3 arg4 harg4 arg5 harg5 arg6 harg6 arg7 harg7 arg8 harg8 c v1 cst_15 cst_16 arg10 v101 x0 x1 x2 a b) ?_
    dsimp only
    refine bind_run c (pure_run c _ _) ?_
    dsimp only
    exact pure_run c _ _ _
  · simp only [pick, if_neg h]
    refine bind_run c (pure_run c _ _) ?_
    dsimp only
    exact pure_run c _ _ _

/-- What part 8 of the printed trip returns, and what it leaves in the two buffers. -/
theorem part8_run (c : Dev nD) (v1 : FVec F S8x2048 .f32) (cst_15 : F .f32) (v168 : FVec F S8x2048 .f32) (x0 x1 x2 : Vec F S2048x8 .f32) (a b : Vec F S8x8x2048 .f32) (K : (Σ' (v175 : FVec F S8x1 .f32) (v180 : FVec F S8x1 .f32) (v185 : FVec F S8x1 .f32) (v190 : FVec F S8x1 .f32) (v199 : FVec F S8x1 .f32), FVec F S8x1 .f32) → sProp 𝕄) :
    iprop(held c arg0 arg1 arg2 arg7 arg8 x0 x1 x2 a b ∗ (held c arg0 arg1 arg2 arg7 arg8 x0 x1 x2 a b -∗
        K ⟨k0_pay60 v168 (slab4 a), k0_pay61 v168 (slab5 a), k0_pay62 v168 (slab6 a), k0_pay63 v168 (slab7 a), k0_pay64 v1 cst_15 v168 (slab4 a) (slab4 a), k0_pay65 v1 cst_15 v168 (slab5 a) (slab5 a)⟩))
      ⊢ wp frame (wpE (defs₀ (F := F)) 𝒱₀ c none) Set.univ (k0_part8 (F := F) arg0 harg0 arg1 harg1 arg2 harg2 arg3 harg3 arg4 harg4 arg5 harg5 arg6 harg6 arg7 harg7 arg8 harg8 v1 cst_15 v168) K := by
  unfold held owns
  iintro ⟨⟨⟨%f0, %hf0, H0⟩, ⟨%f1, %hf1, H1⟩, ⟨%f2, %hf2, H2⟩, ⟨%f7, %hf7, H7⟩, ⟨%f8, %hf8, H8⟩⟩, Hk⟩
  subst hf0 hf1 hf2 hf7 hf8
  simp only [slab0_eq, slab1_eq, slab2_eq, slab3_eq, slab4_eq, slab5_eq, slab6_eq, slab7_eq, block1_eq, block2_eq]
  rw [k0_part8_eq_skeleton]; unfold k0_part8_skel
  sl_exec
  sl_step
  iapply Hk
  isplitl [H0]
  · iexists _; isplitr [H0]; rotate_left
    · iexact H0
    · ipureintro; rfl
  isplitl [H1]
  · iexists _; isplitr [H1]; rotate_left
    · iexact H1
    · ipureintro; rfl
  isplitl [H2]
  · iexists _; isplitr [H2]; rotate_left
    · iexact H2
    · ipureintro; rfl
  isplitl [H7]
  · iexists _; isplitr [H7]; rotate_left
    · iexact H7
    · ipureintro; rfl
  · iexists _; isplitr [H8]; rotate_left
    · iexact H8
    · ipureintro; rfl

/-- What part 9 of the printed trip returns, and what it leaves in the two buffers. -/
theorem part9_run (c : Dev nD) (v1 : FVec F S8x2048 .f32) (cst_15 : F .f32) (cst_16 : F .f32) (v168 : FVec F S8x2048 .f32) (v180 : FVec F S8x1 .f32) (v185 : FVec F S8x1 .f32) (v190 : FVec F S8x1 .f32) (v199 : FVec F S8x1 .f32) (v208 : FVec F S8x1 .f32) (x0 x1 x2 : Vec F S2048x8 .f32) (a b : Vec F S8x8x2048 .f32) (K : (Σ' (v250_0 : FVec F S8x1 .f32) (v250_1 : FVec F S8x1 .f32) (v250_2 : FVec F S8x1 .f32) (v250_4 : FVec F S8x1 .f32) (v250_5 : FVec F S8x1 .f32), IVec S8x2048 1) → sProp 𝕄) :
    iprop(held c arg0 arg1 arg2 arg7 arg8 x0 x1 x2 a b ∗ (held c arg0 arg1 arg2 arg7 arg8 x0 x1 x2 a b -∗
        K ⟨(pick (k0_pay68 v1 cst_15 v168 v185 v190 v199 v208 (slab6 a) (slab7 a)) (k0_pay17 v1 cst_16 v168 v199 (slab5 a)) (v180)), (pick (k0_pay68 v1 cst_15 v168 v185 v190 v199 v208 (slab6 a) (slab7 a)) (k0_pay21 v1 cst_15 cst_16 v168 v199 (slab5 a) (slab6 a)) (v185)), (pick (k0_pay68 v1 cst_15 v168 v185 v190 v199 v208 (slab6 a) (slab7 a)) (k0_pay24 v1 cst_15 cst_16 v168 v199 (slab5 a) (slab6 a) (slab7 a)) (v190)), (pick (k0_pay68 v1 cst_15 v168 v185 v190 v199 v208 (slab6 a) (slab7 a)) (k0_pay22 v1 cst_15 cst_16 v168 v199 (slab5 a) (slab6 a)) (k0_pay66 v1 cst_15 v168 v185 (slab6 a))), (pick (k0_pay68 v1 cst_15 v168 v185 v190 v199 v208 (slab6 a) (slab7 a)) (k0_pay25 v1 cst_15 cst_16 v168 v199 (slab5 a) (slab6 a) (slab7 a)) (k0_pay67 v1 cst_15 v168 v190 (slab7 a))), k0_pay69 v1 v199 (pick (k0_pay68 v1 cst_15 v168 v185 v190 v199 v208 (slab6 a) (slab7 a)) (k0_pay18 v1 cst_15 cst_16 v168 v199 (slab5 a)) (v208))⟩))
      ⊢ wp frame (wpE (defs₀ (F := F)) 𝒱₀ c none) Set.univ (k0_part9 (F := F) arg0 harg0 arg1 harg1 arg2 harg2 arg3 harg3 arg4 harg4 arg5 harg5 arg6 harg6 arg7 harg7 arg8 harg8 v1 cst_15 cst_16 v168 v180 v185 v190 v199 v208) K := by
  rw [k0_part9_eq_skeleton]; unfold k0_part9_skel
  refine bind_run c (load7_run arg0 arg1 arg2 arg7 arg8 c _ _ _ x0 x1 x2 a b (slab6 a) rfl) ?_
  refine bind_run c (load7_run arg0 arg1 arg2 arg7 arg8 c _ _ _ x0 x1 x2 a b (slab7 a) rfl) ?_
  dsimp only
  by_cases h : taken (k0_pay68 v1 cst_15 v168 v185 v190 v199 v208 (slab6 a) (slab7 a))
  · simp only [pick, if_pos h]
    refine bind_run c (part2_run arg0 harg0 arg1 harg1 arg2 harg2 arg3 harg3 arg4 harg4 arg5 harg5 arg6 harg6 arg7 harg7 arg8 harg8 c v1 cst_15 cst_16 v168 v199 x0 x1 x2 a b) ?_
    dsimp only
    refine bind_run c (pure_run c _ _) ?_
    dsimp only
    exact pure_run c _ _ _
  · simp only [pick, if_neg h]
    refine bind_run c (pure_run c _ _) ?_
    dsimp only
    exact pure_run c _ _ _

/-- What part 10 of the printed trip returns, and what it leaves in the two buffers. -/
theorem part10_run (c : Dev nD) (v1 : FVec F S8x2048 .f32) (v4 : FVec F S1x8x2048 .f32) (v7 : FVec F S1x8x2048 .f32) (v10 : FVec F S1x8x2048 .f32) (cst_16 : F .f32) (k0_t1 : Fin k0_t1_loop.trips) (v42 : BitVec 32) (v168 : FVec F S8x2048 .f32) (v170 : FVec F S8x128 .f32) (v175 : FVec F S8x1 .f32) (v250_0 : FVec F S8x1 .f32) (v250_1 : FVec F S8x1 .f32) (v250_2 : FVec F S8x1 .f32) (v250_4 : FVec F S8x1 .f32) (v250_5 : FVec F S8x1 .f32) (v255 : IVec S8x2048 1) (x0 x1 x2 : Vec F S2048x8 .f32) (a b : Vec F S8x8x2048 .f32) (K : (Σ' (v266 : FVec F S8x2048 .f32) (v268 : FVec F S8x128 .f32), FVec F S8x2048 .f32) → sProp 𝕄) :
    iprop(held c arg0 arg1 arg2 arg7 arg8 x0 x1 x2 a b ∗ (held c arg0 arg1 arg2 arg7 arg8 x0 x1 x2 (k0_pay72 v4 v7 v10 (block2 k0_t1 x0) (block2 k0_t1 x1) (block2 k0_t1 x2)) b -∗
        K ⟨k0_pay70 v1 cst_16 v168 v250_4 v250_5 v255, k0_pay71 v170 v175 v250_0 v250_1 v250_2, k0_pay73 v1 cst_16 v168 v250_4 v250_5 v255 (slab0 b)⟩))
      ⊢ wp frame (wpE (defs₀ (F := F)) 𝒱₀ c none) Set.univ (k0_part10 (F := F) arg0 harg0 arg1 harg1 arg2 harg2 arg3 harg3 arg4 harg4 arg5 harg5 arg6 harg6 arg7 harg7 arg8 harg8 v1 v4 v7 v10 cst_16 k0_t1 v42 v168 v170 v175 v250_0 v250_1 v250_2 v250_4 v250_5 v255) K := by
  unfold held owns
  iintro ⟨⟨⟨%f0, %hf0, H0⟩, ⟨%f1, %hf1, H1⟩, ⟨%f2, %hf2, H2⟩, ⟨%f7, %hf7, H7⟩, ⟨%f8, %hf8, H8⟩⟩, Hk⟩
  subst hf0 hf1 hf2 hf7 hf8
  simp only [slab0_eq, slab1_eq, slab2_eq, slab3_eq, slab4_eq, slab5_eq, slab6_eq, slab7_eq, block1_eq, block2_eq]
  rw [k0_part10_eq_skeleton]; unfold k0_part10_skel
  sl_exec
  sl_step
  iapply Hk
  isplitl [H0]
  · iexists _; isplitr [H0]; rotate_left
    · iexact H0
    · ipureintro; rfl
  isplitl [H1]
  · iexists _; isplitr [H1]; rotate_left
    · iexact H1
    · ipureintro; rfl
  isplitl [H2]
  · iexists _; isplitr [H2]; rotate_left
    · iexact H2
    · ipureintro; rfl
  isplitl [H7]
  · iexists _; isplitr [H7]; rotate_left
    · iexact H7
    · ipureintro; exact View.read_writes_full _ _ _ _ _
  · iexists _; isplitr [H8]; rotate_left
    · iexact H8
    · ipureintro; rfl

/-- What part 11 of the printed trip returns, and what it leaves in the two buffers. -/
theorem part11_run (c : Dev nD) (v1 : FVec F S8x2048 .f32) (cst_15 : F .f32) (v266 : FVec F S8x2048 .f32) (v302 : FVec F S8x2048 .f32) (x0 x1 x2 : Vec F S2048x8 .f32) (a b : Vec F S8x8x2048 .f32) (K : (Σ' (v304 : FVec F S8x1 .f32) (v309 : FVec F S8x1 .f32) (v314 : FVec F S8x1 .f32) (v319 : FVec F S8x1 .f32) (v328 : FVec F S8x1 .f32) (v337 : FVec F S8x1 .f32), FVec F S8x2048 .f32) → sProp 𝕄) :
    iprop(held c arg0 arg1 arg2 arg7 arg8 x0 x1 x2 a b ∗ (held c arg0 arg1 arg2 arg7 arg8 x0 x1 x2 a b -∗
        K ⟨k0_pay74 v302, k0_pay75 v266 (slab1 b), k0_pay76 v266 (slab2 b), k0_pay77 v266 (slab3 b), k0_pay78 v1 cst_15 v266 v302 (slab0 b), k0_pay79 v1 cst_15 v266 (slab1 b) (slab1 b), k0_pay80 (slab2 b)⟩))
      ⊢ wp frame (wpE (defs₀ (F := F)) 𝒱₀ c none) Set.univ (k0_part11 (F := F) arg0 harg0 arg1 harg1 arg2 harg2 arg3 harg3 arg4 harg4 arg5 harg5 arg6 harg6 arg7 harg7 arg8 harg8 v1 cst_15 v266 v302) K := by
  unfold held owns
  iintro ⟨⟨⟨%f0, %hf0, H0⟩, ⟨%f1, %hf1, H1⟩, ⟨%f2, %hf2, H2⟩, ⟨%f7, %hf7, H7⟩, ⟨%f8, %hf8, H8⟩⟩, Hk⟩
  subst hf0 hf1 hf2 hf7 hf8
  simp only [slab0_eq, slab1_eq, slab2_eq, slab3_eq, slab4_eq, slab5_eq, slab6_eq, slab7_eq, block1_eq, block2_eq]
  rw [k0_part11_eq_skeleton]; unfold k0_part11_skel
  sl_exec
  sl_step
  iapply Hk
  isplitl [H0]
  · iexists _; isplitr [H0]; rotate_left
    · iexact H0
    · ipureintro; rfl
  isplitl [H1]
  · iexists _; isplitr [H1]; rotate_left
    · iexact H1
    · ipureintro; rfl
  isplitl [H2]
  · iexists _; isplitr [H2]; rotate_left
    · iexact H2
    · ipureintro; rfl
  isplitl [H7]
  · iexists _; isplitr [H7]; rotate_left
    · iexact H7
    · ipureintro; rfl
  · iexists _; isplitr [H8]; rotate_left
    · iexact H8
    · ipureintro; rfl

/-- What part 12 of the printed trip returns, and what it leaves in the two buffers. -/
theorem part12_run (c : Dev nD) (v1 : FVec F S8x2048 .f32) (cst_15 : F .f32) (cst_16 : F .f32) (v266 : FVec F S8x2048 .f32) (v304 : FVec F S8x1 .f32) (v309 : FVec F S8x1 .f32) (v314 : FVec F S8x1 .f32) (v319 : FVec F S8x1 .f32) (v328 : FVec F S8x1 .f32) (v337 : FVec F S8x1 .f32) (v339 : FVec F S8x2048 .f32) (x0 x1 x2 : Vec F S2048x8 .f32) (a b : Vec F S8x8x2048 .f32) (K : (Σ' (v379_1 : FVec F S8x1 .f32) (v379_2 : FVec F S8x1 .f32) (v379_5 : FVec F S8x1 .f32) (v385 : FVec F S8x1 .f32), IVec S8x2048 1) → sProp 𝕄) :
    iprop(held c arg0 arg1 arg2 arg7 arg8 x0 x1 x2 a b ∗ (held c arg0 arg1 arg2 arg7 arg8 x0 x1 x2 a b -∗
        K ⟨(pick (k0_pay83 v1 cst_15 v266 v314 v319 v328 v337 v339 (slab3 b)) (k0_pay32 v1 cst_15 cst_16 v266 v328 (slab1 b) (slab2 b)) (v314)), (pick (k0_pay83 v1 cst_15 v266 v314 v319 v328 v337 v339 (slab3 b)) (k0_pay35 v1 cst_15 cst_16 v266 v328 (slab1 b) (slab2 b) (slab3 b)) (v319)), (pick (k0_pay83 v1 cst_15 v266 v314 v319 v328 v337 v339 (slab3 b)) (k0_pay36 v1 cst_15 cst_16 v266 v328 (slab1 b) (slab2 b) (slab3 b)) (k0_pay82 v1 cst_15 v266 v319 (slab3 b))), k0_pay84 v304 (pick (k0_pay83 v1 cst_15 v266 v314 v319 v328 v337 v339 (slab3 b)) (k0_pay28 v1 cst_16 v266 v328 (slab1 b)) (v309)), k0_pay85 v1 v328 (pick (k0_pay83 v1 cst_15 v266 v314 v319 v328 v337 v339 (slab3 b)) (k0_pay29 v1 cst_15 cst_16 v266 v328 (slab1 b)) (v337)) (pick (k0_pay83 v1 cst_15 v266 v314 v319 v328 v337 v339 (slab3 b)) (k0_pay33 v1 cst_15 cst_16 v266 v328 (slab1 b) (slab2 b)) (k0_pay81 v1 cst_15 v266 v314 v339))⟩))
      ⊢ wp frame (wpE (defs₀ (F := F)) 𝒱₀ c none) Set.univ (k0_part12 (F := F) arg0 harg0 arg1 harg1 arg2 harg2 arg3 harg3 arg4 harg4 arg5 harg5 arg6 harg6 arg7 harg7 arg8 harg8 v1 cst_15 cst_16 v266 v304 v309 v314 v319 v328 v337 v339) K := by
  rw [k0_part12_eq_skeleton]; unfold k0_part12_skel
  refine bind_run c (load8_run arg0 arg1 arg2 arg7 arg8 c _ _ _ x0 x1 x2 a b (slab3 b) rfl) ?_
  dsimp only
  by_cases h : taken (k0_pay83 v1 cst_15 v266 v314 v319 v328 v337 v339 (slab3 b))
  · simp only [pick, if_pos h]
    refine bind_run c (part3_run arg0 harg0 arg1 harg1 arg2 harg2 arg3 harg3 arg4 harg4 arg5 harg5 arg6 harg6 arg7 harg7 arg8 harg8 c v1 cst_15 cst_16 v266 v328 x0 x1 x2 a b) ?_
    dsimp only
    refine bind_run c (pure_run c _ _) ?_
    dsimp only
    exact pure_run c _ _ _
  · simp only [pick, if_neg h]
    refine bind_run c (pure_run c _ _) ?_
    dsimp only
    exact pure_run c _ _ _

/-- What part 13 of the printed trip returns, and what it leaves in the two buffers. -/
theorem part13_run (c : Dev nD) (v1 : FVec F S8x2048 .f32) (cst_15 : F .f32) (cst_16 : F .f32) (v266 : FVec F S8x2048 .f32) (v268 : FVec F S8x128 .f32) (v379_1 : FVec F S8x1 .f32) (v379_2 : FVec F S8x1 .f32) (v379_5 : FVec F S8x1 .f32) (v385 : FVec F S8x1 .f32) (v388 : IVec S8x2048 1) (x0 x1 x2 : Vec F S2048x8 .f32) (a b : Vec F S8x8x2048 .f32) (K : (Σ' (v395 : FVec F S8x2048 .f32) (v397 : FVec F S8x128 .f32) (v402 : FVec F S8x1 .f32) (v407 : FVec F S8x1 .f32) (v412 : FVec F S8x1 .f32) (v417 : FVec F S8x1 .f32), FVec F S8x1 .f32) → sProp 𝕄) :
    iprop(held c arg0 arg1 arg2 arg7 arg8 x0 x1 x2 a b ∗ (held c arg0 arg1 arg2 arg7 arg8 x0 x1 x2 a b -∗
        K ⟨k0_pay86 v1 cst_16 v266 v379_5 v388, k0_pay87 v268 v379_1 v379_2 v385, k0_pay88 v1 cst_16 v266 v379_5 v388 (slab4 b), k0_pay89 v1 cst_16 v266 v379_5 v388 (slab5 b), k0_pay90 v1 cst_16 v266 v379_5 v388 (slab6 b), k0_pay91 v1 cst_16 v266 v379_5 v388 (slab7 b), k0_pay92 v1 cst_15 cst_16 v266 v379_5 v388 (slab4 b) (slab4 b)⟩))
      ⊢ wp frame (wpE (defs₀ (F := F)) 𝒱₀ c none) Set.univ (k0_part13 (F := F) arg0 harg0 arg1 harg1 arg2 harg2 arg3 harg3 arg4 harg4 arg5 harg5 arg6 harg6 arg7 harg7 arg8 harg8 v1 cst_15 cst_16 v266 v268 v379_1 v379_2 v379_5 v385 v388) K := by
  unfold held owns
  iintro ⟨⟨⟨%f0, %hf0, H0⟩, ⟨%f1, %hf1, H1⟩, ⟨%f2, %hf2, H2⟩, ⟨%f7, %hf7, H7⟩, ⟨%f8, %hf8, H8⟩⟩, Hk⟩
  subst hf0 hf1 hf2 hf7 hf8
  simp only [slab0_eq, slab1_eq, slab2_eq, slab3_eq, slab4_eq, slab5_eq, slab6_eq, slab7_eq, block1_eq, block2_eq]
  rw [k0_part13_eq_skeleton]; unfold k0_part13_skel
  sl_exec
  sl_step
  iapply Hk
  isplitl [H0]
  · iexists _; isplitr [H0]; rotate_left
    · iexact H0
    · ipureintro; rfl
  isplitl [H1]
  · iexists _; isplitr [H1]; rotate_left
    · iexact H1
    · ipureintro; rfl
  isplitl [H2]
  · iexists _; isplitr [H2]; rotate_left
    · iexact H2
    · ipureintro; rfl
  isplitl [H7]
  · iexists _; isplitr [H7]; rotate_left
    · iexact H7
    · ipureintro; rfl
  · iexists _; isplitr [H8]; rotate_left
    · iexact H8
    · ipureintro; rfl

/-- What part 14 of the printed trip returns, and what it leaves in the two buffers. -/
theorem part14_run (c : Dev nD) (v1 : FVec F S8x2048 .f32) (cst_15 : F .f32) (v395 : FVec F S8x2048 .f32) (v407 : FVec F S8x1 .f32) (v412 : FVec F S8x1 .f32) (v417 : FVec F S8x1 .f32) (v426 : FVec F S8x1 .f32) (x0 x1 x2 : Vec F S2048x8 .f32) (a b : Vec F S8x8x2048 .f32) (K : (Σ' (v435 : FVec F S8x1 .f32) (v444 : FVec F S8x1 .f32) (v453 : FVec F S8x1 .f32), FVec F S1x1x1 .f32) → sProp 𝕄) :
    iprop(held c arg0 arg1 arg2 arg7 arg8 x0 x1 x2 a b ∗ (held c arg0 arg1 arg2 arg7 arg8 x0 x1 x2 a b -∗
        K ⟨k0_pay93 v1 cst_15 v395 v407 (slab5 b), k0_pay94 v1 cst_15 v395 v412 (slab6 b), k0_pay95 v1 cst_15 v395 v417 (slab7 b), k0_pay96 v1 cst_15 v395 v407 v412 v417 v426 (slab5 b) (slab6 b) (slab7 b)⟩))
      ⊢ wp frame (wpE (defs₀ (F := F)) 𝒱₀ c none) Set.univ (k0_part14 (F := F) arg0 harg0 arg1 harg1 arg2 harg2 arg3 harg3 arg4 harg4 arg5 harg5 arg6 harg6 arg7 harg7 arg8 harg8 v1 cst_15 v395 v407 v412 v417 v426) K := by
  unfold held owns
  iintro ⟨⟨⟨%f0, %hf0, H0⟩, ⟨%f1, %hf1, H1⟩, ⟨%f2, %hf2, H2⟩, ⟨%f7, %hf7, H7⟩, ⟨%f8, %hf8, H8⟩⟩, Hk⟩
  subst hf0 hf1 hf2 hf7 hf8
  simp only [slab0_eq, slab1_eq, slab2_eq, slab3_eq, slab4_eq, slab5_eq, slab6_eq, slab7_eq, block1_eq, block2_eq]
  rw [k0_part14_eq_skeleton]; unfold k0_part14_skel
  sl_exec
  sl_step
  iapply Hk
  isplitl [H0]
  · iexists _; isplitr [H0]; rotate_left
    · iexact H0
    · ipureintro; rfl
  isplitl [H1]
  · iexists _; isplitr [H1]; rotate_left
    · iexact H1
    · ipureintro; rfl
  isplitl [H2]
  · iexists _; isplitr [H2]; rotate_left
    · iexact H2
    · ipureintro; rfl
  isplitl [H7]
  · iexists _; isplitr [H7]; rotate_left
    · iexact H7
    · ipureintro; rfl
  · iexists _; isplitr [H8]; rotate_left
    · iexact H8
    · ipureintro; rfl

end Parts

end Cert.Proof.KernelIdeal

end
-- ==== Proof.KernelIdeal.Trip.lean ====
module

public import proofs.«01_k».proof.Proof.KernelIdeal.Parts

/-!
One trip of the kernel's loop: four groups of four rows, each worked out by `group`, and the two buffers refilled.
-/

@[expose] public section

noncomputable section

namespace Cert.Proof.KernelIdeal

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The proof's resource algebra: the frame kit's. -/
local notation "𝕄" => MT nD τ sig Unit (Elt F) ℕ (UR sig nD τ) ℕ

/-- The numbers a kernel computes with: the column numbers, "no column", and the mark of a used column. -/
structure Consts (F : FTy → Type) [FloatOps F] where
  iota : FVec F S8x2048 .f32
  none : F .f32
  used : F .f32

/-- The masked distances of one row. -/
def masked (m : FVec F S8x2048 .f32) (s : Vec F S1x8x2048 .f32) : FVec F S8x2048 .f32 :=
  addf (shapeCast S8x2048 s shapeCasts_S1x8x2048_S8x2048) m

/-- The least entry of each batch's row. -/
def least (d : FVec F S8x2048 .f32) : FVec F S8x1 .f32 :=
  shapeCast S8x1 (multiReduction .minimumf [1] S8 d 0x7F800000#32 reduces_S8x2048_S8 (.inl rfl) rfl) shapeCasts_S8_S8x1

/-- The first column at which each batch's row has the entry `v`. -/
def place (C : Consts F) (d : FVec F S8x2048 .f32) (v : FVec F S8x1 .f32) : FVec F S8x1 .f32 :=
  least (select (cmpf .oeq d (broadcastTo S8x2048 v broadcasts_S8x1_S8x2048)) C.iota (broadcast S8x2048 C.none))

/-- Where the column number is `j`. -/
def isAt (C : Consts F) (j : FVec F S8x1 .f32) : IVec S8x2048 1 :=
  cmpf .oeq C.iota (broadcastTo S8x2048 j broadcasts_S8x1_S8x2048)

/-- The mask with column `j` used up. -/
def mark (C : Consts F) (m : FVec F S8x2048 .f32) (j : FVec F S8x1 .f32) : FVec F S8x2048 .f32 :=
  select (isAt C j) (broadcast S8x2048 C.used) m

/-- A positive number when two of the four columns agree in some batch. -/
def clash (j0 j1 j2 j3 : FVec F S8x1 .f32) : F .f32 :=
  extractAt ![0, 0, 0] (shapeCast S1x1x1 (multiReduction .maximumf [1, 2] S1 (shapeCast S1x8x1
    (select (ori (ori (ori (ori (ori (ori (broadcast S8x1 0#1) (cmpf .oeq j0 j1)) (cmpf .oeq j0 j2)) (cmpf .oeq j0 j3)) (cmpf .oeq j1 j2))
        (cmpf .oeq j1 j3)) (cmpf .oeq j2 j3))
      (broadcast S8x1 (Scalar.ofBits .f32 0x3F800000#32)) (broadcast S8x1 (Scalar.ofBits .f32 0x00000000#32))) shapeCasts_S8x1_S1x8x1)
    0xFF800000#32 reduces_S1x8x1_S1 (.inl rfl) rfl) shapeCasts_S1_S1x1x1) inpos_S1x1x1_p0_0_0

/-- The four least entries and their columns. -/
structure Four (F : FTy → Type) [FloatOps F] where
  (v0 v1 v2 v3 j0 j1 j2 j3 : FVec F S8x1 .f32)

/-- Four rows worked out against one mask. -/
def together (C : Consts F) (m : FVec F S8x2048 .f32) (s0 s1 s2 s3 : Vec F S1x8x2048 .f32) : Four F where
  v0 := least (masked m s0)
  v1 := least (masked m s1)
  v2 := least (masked m s2)
  v3 := least (masked m s3)
  j0 := place C (masked m s0) (least (masked m s0))
  j1 := place C (masked m s1) (least (masked m s1))
  j2 := place C (masked m s2) (least (masked m s2))
  j3 := place C (masked m s3) (least (masked m s3))

/-- The mask after one row, taken in its turn. -/
def after (C : Consts F) (m : FVec F S8x2048 .f32) (s : Vec F S1x8x2048 .f32) : FVec F S8x2048 .f32 :=
  mark C m (place C (masked m s) (least (masked m s)))

/-- Four rows worked out one after another, each column marked before the next row. -/
def inTurn (C : Consts F) (m : FVec F S8x2048 .f32) (s0 s1 s2 s3 : Vec F S1x8x2048 .f32) : Four F where
  v0 := least (masked m s0)
  v1 := least (masked (after C m s0) s1)
  v2 := least (masked (after C (after C m s0) s1) s2)
  v3 := least (masked (after C (after C (after C m s0) s1) s2) s3)
  j0 := place C (masked m s0) (least (masked m s0))
  j1 := place C (masked (after C m s0) s1) (least (masked (after C m s0) s1))
  j2 := place C (masked (after C (after C m s0) s1) s2) (least (masked (after C (after C m s0) s1) s2))
  j3 := place C (masked (after C (after C (after C m s0) s1) s2) s3) (least (masked (after C (after C (after C m s0) s1) s2) s3))

/-- Whether the four rows of a group ask for one column twice. -/
def collides (C : Consts F) (m : FVec F S8x2048 .f32) (s0 s1 s2 s3 : Vec F S1x8x2048 .f32) : F .f32 :=
  clash (together C m s0 s1 s2 s3).j0 (together C m s0 s1 s2 s3).j1 (together C m s0 s1 s2 s3).j2 (together C m s0 s1 s2 s3).j3

/-- What the kernel takes of the two ways at one entry. -/
def chosen (C : Consts F) (m : FVec F S8x2048 .f32) (s0 s1 s2 s3 : Vec F S1x8x2048 .f32) (e : Four F → FVec F S8x1 .f32) : FVec F S8x1 .f32 :=
  pick (collides C m s0 s1 s2 s3) (e (inTurn C m s0 s1 s2 s3)) (e (together C m s0 s1 s2 s3))

/-- One group of four rows: the mask with the four columns used up, and the four least entries added to the totals. -/
def group (C : Consts F) (st : FVec F S8x2048 .f32 × FVec F S8x128 .f32) (s0 s1 s2 s3 : Vec F S1x8x2048 .f32) :
    FVec F S8x2048 .f32 × FVec F S8x128 .f32 :=
  (select (ori (ori (ori (isAt C (together C st.1 s0 s1 s2 s3).j0) (isAt C (chosen C st.1 s0 s1 s2 s3 Four.j1)))
        (isAt C (chosen C st.1 s0 s1 s2 s3 Four.j2))) (isAt C (chosen C st.1 s0 s1 s2 s3 Four.j3)))
      (broadcast S8x2048 C.used) st.1,
    addf st.2 (broadcastTo S8x128 (addf (addf (addf (together C st.1 s0 s1 s2 s3).v0 (chosen C st.1 s0 s1 s2 s3 Four.v1))
      (chosen C st.1 s0 s1 s2 s3 Four.v2)) (chosen C st.1 s0 s1 s2 s3 Four.v3)) broadcasts_S8x1_S8x128))

/-- The distances of eight rows, their coordinates `p0`, `p1`, `p2`, to all columns. -/
def dists (y0 y1 y2 : FVec F S1x8x2048 .f32) (p0 p1 p2 : Vec F S8x8 .f32) : Vec F S8x8x2048 .f32 := k0_pay48 y0 y1 y2 p0 p1 p2

/-- The first and the second group of a buffer's eight rows. -/
def eight (C : Consts F) (st : FVec F S8x2048 .f32 × FVec F S8x128 .f32) (a : Vec F S8x8x2048 .f32) :
    FVec F S8x2048 .f32 × FVec F S8x128 .f32 :=
  group C (group C st (slab0 a) (slab1 a) (slab2 a) (slab3 a)) (slab4 a) (slab5 a) (slab6 a) (slab7 a)

section Trip

variable (arg0 : Memref sig .tc .vmem S2048x8 .f32) (harg0 : arg0.IsWhole) (arg1 : Memref sig .tc .vmem S2048x8 .f32) (harg1 : arg1.IsWhole)
  (arg2 : Memref sig .tc .vmem S2048x8 .f32) (harg2 : arg2.IsWhole) (arg3 : Memref sig .tc .vmem S8x2048 .f32) (harg3 : arg3.IsWhole)
  (arg4 : Memref sig .tc .vmem S8x2048 .f32) (harg4 : arg4.IsWhole) (arg5 : Memref sig .tc .vmem S8x2048 .f32) (harg5 : arg5.IsWhole)
  (arg6 : Memref sig .tc .vmem S8x128 .f32) (harg6 : arg6.IsWhole) (arg7 : Memref sig .tc .vmem S8x8x2048 .f32) (harg7 : arg7.IsWhole)
  (arg8 : Memref sig .tc .vmem S8x8x2048 .f32) (harg8 : arg8.IsWhole)

/-- Running `p` and then going on from what it returns, under a name for it. -/
theorem bind_named {α β : Type} (c : Dev nD) {p : Prog (TpuEff nD τ sig (Elt F) Λ₀ .tc) α} {f : α → Prog (TpuEff nD τ sig (Elt F) Λ₀ .tc) β}
    {P P' Q : sProp 𝕄} {r : α} {K : β → sProp 𝕄}
    (h : ∀ K : α → sProp 𝕄, iprop(P ∗ (P' -∗ K r)) ⊢ wp frame (wpE (defs₀ (F := F)) 𝒱₀ c none) Set.univ p K)
    (h2 : ∀ v, v = r → (iprop(P' ∗ Q) ⊢ wp frame (wpE (defs₀ (F := F)) 𝒱₀ c none) Set.univ (f v) K)) :
    iprop(P ∗ Q) ⊢ wp frame (wpE (defs₀ (F := F)) 𝒱₀ c none) Set.univ (p >>= f) K :=
  bind_run c h (h2 r rfl)

set_option maxRecDepth 65536 in
set_option maxHeartbeats 2000000 in
/-- One trip: what it returns, and the two buffers after it. -/
theorem trip_run (c : Dev nD) (v1 : FVec F S8x2048 .f32) (v4 v7 v10 : FVec F S1x8x2048 .f32) (cst_15 cst_16 : F .f32)
    (k0_t1 : Fin k0_t1_loop.trips) (st : FVec F S8x2048 .f32 × FVec F S8x128 .f32)
    (x0 x1 x2 : Vec F S2048x8 .f32) (a b : Vec F S8x8x2048 .f32) (K : FVec F S8x2048 .f32 × FVec F S8x128 .f32 → sProp 𝕄) :
    iprop(held c arg0 arg1 arg2 arg7 arg8 x0 x1 x2 a b ∗ (held c arg0 arg1 arg2 arg7 arg8 x0 x1 x2
          (dists v4 v7 v10 (block2 k0_t1 x0) (block2 k0_t1 x1) (block2 k0_t1 x2))
          (dists v4 v7 v10 (block1 k0_t1 x0) (block1 k0_t1 x1) (block1 k0_t1 x2)) -∗
        K (eight ⟨v1, cst_15, cst_16⟩ (eight ⟨v1, cst_15, cst_16⟩ st a)
          (dists v4 v7 v10 (block1 k0_t1 x0) (block1 k0_t1 x1) (block1 k0_t1 x2)))))
      ⊢ wp frame (wpE (defs₀ (F := F)) 𝒱₀ c none) Set.univ
          (k0_t1_body (F := F) arg0 harg0 arg1 harg1 arg2 harg2 arg3 harg3 arg4 harg4 arg5 harg5 arg6 harg6 arg7 harg7 arg8 harg8 v1 v4 v7 v10 cst_15 cst_16 0#32 k0_t1 st) K := by
  obtain ⟨arg10, arg11⟩ := st
  unfold k0_t1_body
  dsimp only
  generalize hb : dists v4 v7 v10 (block1 k0_t1 x0) (block1 k0_t1 x1) (block1 k0_t1 x2) = b'
  refine bind_named c (part5_run arg0 harg0 arg1 harg1 arg2 harg2 arg3 harg3 arg4 harg4 arg5 harg5 arg6 harg6 arg7 harg7 arg8 harg8 c v4 v7 v10 0#32 1#32 k0_t1 arg10 x0 x1 x2 a b) ?_
  rintro ⟨v42, v77, v82⟩ h
  rw [show k0_pay48 v4 v7 v10 (block1 k0_t1 x0) (block1 k0_t1 x1) (block1 k0_t1 x2) = b' from hb]
  simp only [PSigma.mk.injEq, heq_eq_eq] at h
  obtain ⟨h42, h77, h82⟩ := h
  dsimp only
  refine bind_named c (part6_run arg0 harg0 arg1 harg1 arg2 harg2 arg3 harg3 arg4 harg4 arg5 harg5 arg6 harg6 arg7 harg7 arg8 harg8 c v1 cst_15 arg10 v77 v82 x0 x1 x2 a b') ?_
  rintro ⟨v87, v92, v101, v110, v119, v120⟩ h
  simp only [PSigma.mk.injEq, heq_eq_eq] at h
  obtain ⟨h87, h92, h101, h110, h119, h120⟩ := h
  dsimp only
  refine bind_named c (part7_run arg0 harg0 arg1 harg1 arg2 harg2 arg3 harg3 arg4 harg4 arg5 harg5 arg6 harg6 arg7 harg7 arg8 harg8 c v1 cst_15 cst_16 arg10 arg11 v77 v82 v87 v92 v101 v110 v119 v120 x0 x1 x2 a b') ?_
  rintro ⟨v168, v170⟩ h
  simp only [PSigma.mk.injEq, heq_eq_eq] at h
  obtain ⟨h168, h170⟩ := h
  dsimp only
  have g1 : group ⟨v1, cst_15, cst_16⟩ (arg10, arg11) (slab0 a) (slab1 a) (slab2 a) (slab3 a) = (v168, v170) := by
    subst h168 h170 h120 h119 h110 h101 h92 h87 h82 h77
    rfl
  refine bind_named c (part8_run arg0 harg0 arg1 harg1 arg2 harg2 arg3 harg3 arg4 harg4 arg5 harg5 arg6 harg6 arg7 harg7 arg8 harg8 c v1 cst_15 v168 x0 x1 x2 a b') ?_
  rintro ⟨v175, v180, v185, v190, v199, v208⟩ h
  simp only [PSigma.mk.injEq, heq_eq_eq] at h
  obtain ⟨h175, h180, h185, h190, h199, h208⟩ := h
  dsimp only
  refine bind_named c (part9_run arg0 harg0 arg1 harg1 arg2 harg2 arg3 harg3 arg4 harg4 arg5 harg5 arg6 harg6 arg7 harg7 arg8 harg8 c v1 cst_15 cst_16 v168 v180 v185 v190 v199 v208 x0 x1 x2 a b') ?_
  rintro ⟨v250_0, v250_1, v250_2, v250_4, v250_5, v255⟩ h
  simp only [PSigma.mk.injEq, heq_eq_eq] at h
  obtain ⟨h250_0, h250_1, h250_2, h250_4, h250_5, h255⟩ := h
  dsimp only
  refine bind_named c (part10_run arg0 harg0 arg1 harg1 arg2 harg2 arg3 harg3 arg4 harg4 arg5 harg5 arg6 harg6 arg7 harg7 arg8 harg8 c v1 v4 v7 v10 cst_16 k0_t1 v42 v168 v170 v175 v250_0 v250_1 v250_2 v250_4 v250_5 v255 x0 x1 x2 a b') ?_
  rintro ⟨v266, v268, v302⟩ h
  rw [show k0_pay72 v4 v7 v10 (block2 k0_t1 x0) (block2 k0_t1 x1) (block2 k0_t1 x2) = dists v4 v7 v10 (block2 k0_t1 x0) (block2 k0_t1 x1) (block2 k0_t1 x2) from rfl]
  simp only [PSigma.mk.injEq, heq_eq_eq] at h
  obtain ⟨h266, h268, h302⟩ := h
  dsimp only
  have g2 : group ⟨v1, cst_15, cst_16⟩ (v168, v170) (slab4 a) (slab5 a) (slab6 a) (slab7 a) = (v266, v268) := by
    subst h266 h268 h255 h250_0 h250_1 h250_2 h250_4 h250_5 h208 h199 h190 h185 h180 h175
    rfl
  refine bind_named c (part11_run arg0 harg0 arg1 harg1 arg2 harg2 arg3 harg3 arg4 harg4 arg5 harg5 arg6 harg6 arg7 harg7 arg8 harg8 c v1 cst_15 v266 v302 x0 x1 x2 (dists v4 v7 v10 (block2 k0_t1 x0) (block2 k0_t1 x1) (block2 k0_t1 x2)) b') ?_
  rintro ⟨v304, v309, v314, v319, v328, v337, v339⟩ h
  simp only [PSigma.mk.injEq, heq_eq_eq] at h
  obtain ⟨h304, h309, h314, h319, h328, h337, h339⟩ := h
  dsimp only
  refine bind_named c (part12_run arg0 harg0 arg1 harg1 arg2 harg2 arg3 harg3 arg4 harg4 arg5 harg5 arg6 harg6 arg7 harg7 arg8 harg8 c v1 cst_15 cst_16 v266 v304 v309 v314 v319 v328 v337 v339 x0 x1 x2 (dists v4 v7 v10 (block2 k0_t1 x0) (block2 k0_t1 x1) (block2 k0_t1 x2)) b') ?_
  rintro ⟨v379_1, v379_2, v379_5, v385, v388⟩ h
  simp only [PSigma.mk.injEq, heq_eq_eq] at h
  obtain ⟨h379_1, h379_2, h379_5, h385, h388⟩ := h
  dsimp only
  refine bind_named c (part13_run arg0 harg0 arg1 harg1 arg2 harg2 arg3 harg3 arg4 harg4 arg5 harg5 arg6 harg6 arg7 harg7 arg8 harg8 c v1 cst_15 cst_16 v266 v268 v379_1 v379_2 v379_5 v385 v388 x0 x1 x2 (dists v4 v7 v10 (block2 k0_t1 x0) (block2 k0_t1 x1) (block2 k0_t1 x2)) b') ?_
  rintro ⟨v395, v397, v402, v407, v412, v417, v426⟩ h
  simp only [PSigma.mk.injEq, heq_eq_eq] at h
  obtain ⟨h395, h397, h402, h407, h412, h417, h426⟩ := h
  dsimp only
  have g3 : group ⟨v1, cst_15, cst_16⟩ (v266, v268) (slab0 b') (slab1 b') (slab2 b') (slab3 b') = (v395, v397) := by
    subst h395 h397 h388 h385 h379_1 h379_2 h379_5 h339 h337 h328 h319 h314 h309 h304 h302 h266
    rfl
  refine bind_named c (part14_run arg0 harg0 arg1 harg1 arg2 harg2 arg3 harg3 arg4 harg4 arg5 harg5 arg6 harg6 arg7 harg7 arg8 harg8 c v1 cst_15 v395 v407 v412 v417 v426 x0 x1 x2 (dists v4 v7 v10 (block2 k0_t1 x0) (block2 k0_t1 x1) (block2 k0_t1 x2)) b') ?_
  rintro ⟨v435, v444, v453, v472⟩ h
  simp only [PSigma.mk.injEq, heq_eq_eq] at h
  obtain ⟨h435, h444, h453, h472⟩ := h
  dsimp only
  have g4 : (k0_pay2 v1 cst_16 v395 v426
        (pick (k0_pay1 v472) (k0_pay40 v1 cst_15 cst_16 v395 v426 (slab5 b')) v435)
        (pick (k0_pay1 v472) (k0_pay44 v1 cst_15 cst_16 v395 v426 (slab5 b') (slab6 b')) v444)
        (pick (k0_pay1 v472) (k0_pay47 v1 cst_15 cst_16 v395 v426 (slab5 b') (slab6 b') (slab7 b')) v453),
      k0_pay3 v397 v402
        (pick (k0_pay1 v472) (k0_pay39 v1 cst_16 v395 v426 (slab5 b')) v407)
        (pick (k0_pay1 v472) (k0_pay43 v1 cst_15 cst_16 v395 v426 (slab5 b') (slab6 b')) v412)
        (pick (k0_pay1 v472) (k0_pay46 v1 cst_15 cst_16 v395 v426 (slab5 b') (slab6 b') (slab7 b')) v417))
      = group ⟨v1, cst_15, cst_16⟩ (v395, v397) (slab4 b') (slab5 b') (slab6 b') (slab7 b') := by
    subst h472 h453 h444 h435 h426 h417 h412 h407 h402 h395
    rfl
  unfold eight
  rw [g1, g2, g3, ← g4]
  clear g1 g2 g3 g4
  by_cases h : taken (k0_pay1 v472)
  · simp only [pick, if_pos h]
    refine bind_run c (part4_run arg0 harg0 arg1 harg1 arg2 harg2 arg3 harg3 arg4 harg4 arg5 harg5 arg6 harg6 arg7 harg7 arg8 harg8 c v1 cst_15 cst_16 v395 v426 x0 x1 x2 _ b') ?_
    dsimp only
    refine bind_run c (pure_run c _ _) ?_
    dsimp only
    exact pure_run c _ _ _
  · simp only [pick, if_neg h]
    refine bind_run c (pure_run c _ _) ?_
    dsimp only
    exact pure_run c _ _ _

end Trip

end Cert.Proof.KernelIdeal

end
-- ==== Proof.KernelIdeal.Body.lean ====
module

public import proofs.«01_k».proof.Proof.KernelIdeal.Trip

/-!
The whole kernel body: what is ready before the loop, the loop's invariant, and what the result's block holds at the end.
-/

@[expose] public section

noncomputable section

namespace Cert.Proof.KernelIdeal

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The proof's resource algebra: the frame kit's. -/
local notation "𝕄" => MT nD τ sig Unit (Elt F) ℕ (UR sig nD τ) ℕ

/-- The first eight points of every batch. -/
def block0 (x : Vec F S2048x8 .f32) : Vec F S8x8 .f32 :=
  fun i => x ((Rect.unit (s := S2048x8) ![0, 0] S8x8.size inb_S2048x8_S8x8_0_0).toLoadRect.idx i)

/-- The constants this kernel computes with. -/
def consts : Consts F := ⟨k0_pay97, Scalar.ofBits .f32 0x45000000#32, Named.named κ "mask" 0x7149F2CA#32⟩

/-- What the loop carries. -/
structure Carried (F : FTy → Type) [FloatOps F] where
  st : FVec F S8x2048 .f32 × FVec F S8x128 .f32
  buf : Vec F S8x8x2048 .f32

/-- What the loop carries before trip `k`: the mask, the running sums, and the first buffer. -/
def carried (y0 y1 y2 : FVec F S1x8x2048 .f32) (x0 x1 x2 : Vec F S2048x8 .f32) : ℕ → Carried F
  | 0 => ⟨(k0_pay102, k0_pay103), dists y0 y1 y2 (block0 x0) (block0 x1) (block0 x2)⟩
  | n + 1 =>
    if h : n < k0_t1_loop.trips then
      ⟨eight consts (eight consts (carried y0 y1 y2 x0 x1 x2 n).st (carried y0 y1 y2 x0 x1 x2 n).buf)
          (dists y0 y1 y2 (block1 ⟨n, h⟩ x0) (block1 ⟨n, h⟩ x1) (block1 ⟨n, h⟩ x2)),
        dists y0 y1 y2 (block2 ⟨n, h⟩ x0) (block2 ⟨n, h⟩ x1) (block2 ⟨n, h⟩ x2)⟩
    else carried y0 y1 y2 x0 x1 x2 n

theorem carried_succ (y0 y1 y2 : FVec F S1x8x2048 .f32) (x0 x1 x2 : Vec F S2048x8 .f32) (k : Fin k0_t1_loop.trips) :
    carried y0 y1 y2 x0 x1 x2 (k.val + 1) =
      ⟨eight consts (eight consts (carried y0 y1 y2 x0 x1 x2 k.val).st (carried y0 y1 y2 x0 x1 x2 k.val).buf)
          (dists y0 y1 y2 (block1 k x0) (block1 k x1) (block1 k x2)),
        dists y0 y1 y2 (block2 k x0) (block2 k x1) (block2 k x2)⟩ := by
  rw [carried, dif_pos k.isLt]

/-- What the kernel leaves in the result's block. -/
def sums (x0 x1 x2 : Vec F S2048x8 .f32) (y0 y1 y2 : Vec F S8x2048 .f32) : Vec F S8x128 .f32 :=
  (carried (k0_pay98 y0) (k0_pay99 y1) (k0_pay100 y2) x0 x1 x2 k0_t1_loop.trips).st.2

section Body

variable (arg0 : Memref sig .tc .vmem S2048x8 .f32) (harg0 : arg0.IsWhole) (arg1 : Memref sig .tc .vmem S2048x8 .f32) (harg1 : arg1.IsWhole)
  (arg2 : Memref sig .tc .vmem S2048x8 .f32) (harg2 : arg2.IsWhole) (arg3 : Memref sig .tc .vmem S8x2048 .f32) (harg3 : arg3.IsWhole)
  (arg4 : Memref sig .tc .vmem S8x2048 .f32) (harg4 : arg4.IsWhole) (arg5 : Memref sig .tc .vmem S8x2048 .f32) (harg5 : arg5.IsWhole)
  (arg6 : Memref sig .tc .vmem S8x128 .f32) (harg6 : arg6.IsWhole) (arg7 : Memref sig .tc .vmem S8x8x2048 .f32) (harg7 : arg7.IsWhole)
  (arg8 : Memref sig .tc .vmem S8x8x2048 .f32) (harg8 : arg8.IsWhole)

/-- The loop's invariant: the carried values and the first buffer are those of `carried`, the second buffer holds anything. -/
def inv (c : Dev nD) (y0 y1 y2 : FVec F S1x8x2048 .f32) (x0 x1 x2 : Vec F S2048x8 .f32) (k : ℕ)
    (acc : FVec F S8x2048 .f32 × FVec F S8x128 .f32) : sProp 𝕄 :=
  iprop(⌜acc = (carried y0 y1 y2 x0 x1 x2 k).st⌝ ∗ ∃ b, held c arg0 arg1 arg2 arg7 arg8 x0 x1 x2 (carried y0 y1 y2 x0 x1 x2 k).buf b)

theorem inv_step (c : Dev nD) (y0 y1 y2 : FVec F S1x8x2048 .f32) (x0 x1 x2 : Vec F S2048x8 .f32) (k : Fin k0_t1_loop.trips)
    (acc : FVec F S8x2048 .f32 × FVec F S8x128 .f32) :
    inv arg0 arg1 arg2 arg7 arg8 c y0 y1 y2 x0 x1 x2 k.val acc
      ⊢ wp frame (wpE (defs₀ (F := F)) 𝒱₀ c none) Set.univ
          (k0_t1_body (F := F) arg0 harg0 arg1 harg1 arg2 harg2 arg3 harg3 arg4 harg4 arg5 harg5 arg6 harg6 arg7 harg7 arg8 harg8 k0_pay97 y0 y1 y2 (Scalar.ofBits .f32 0x45000000#32) (Named.named κ "mask" 0x7149F2CA#32) 0#32 k acc)
          (inv arg0 arg1 arg2 arg7 arg8 c y0 y1 y2 x0 x1 x2 (k.val + 1)) := by
  unfold inv
  rw [carried_succ]
  iintro ⟨%hacc, %b, H⟩
  subst hacc
  iapply (trip_run arg0 harg0 arg1 harg1 arg2 harg2 arg3 harg3 arg4 harg4 arg5 harg5 arg6 harg6 arg7 harg7 arg8 harg8 c k0_pay97 y0 y1 y2 (Scalar.ofBits .f32 0x45000000#32) (Named.named κ "mask" 0x7149F2CA#32) k _ x0 x1 x2 _ b _)
  isplitl [H]
  · iexact H
  iintro H
  isplitr
  · ipureintro; rfl
  iexists _
  iexact H

/-- The part before the loop. -/
theorem part15_run (c : Dev nD) (x0 x1 x2 : Vec F S2048x8 .f32) (y0 y1 y2 : Vec F S8x2048 .f32) (a b : Vec F S8x8x2048 .f32)
    (K : _ → sProp 𝕄) :
    iprop((held c arg0 arg1 arg2 arg7 arg8 x0 x1 x2 a b ∗ owns (c : Thread nD τ) arg3 fullShare y0 ∗ owns (c : Thread nD τ) arg4 fullShare y1
        ∗ owns (c : Thread nD τ) arg5 fullShare y2)
      ∗ ((held c arg0 arg1 arg2 arg7 arg8 x0 x1 x2 (dists (k0_pay98 y0) (k0_pay99 y1) (k0_pay100 y2) (block0 x0) (block0 x1) (block0 x2)) b
        ∗ owns (c : Thread nD τ) arg3 fullShare y0 ∗ owns (c : Thread nD τ) arg4 fullShare y1 ∗ owns (c : Thread nD τ) arg5 fullShare y2) -∗
        K ⟨k0_pay97, k0_pay98 y0, k0_pay99 y1, k0_pay100 y2, k0_pay102, k0_pay103, Scalar.ofBits .f32 0x45000000#32, Named.named κ "mask" 0x7149F2CA#32, 0#32⟩))
      ⊢ wp frame (wpE (defs₀ (F := F)) 𝒱₀ c none) Set.univ
          (k0_part15 (F := F) arg0 harg0 arg1 harg1 arg2 harg2 arg3 harg3 arg4 harg4 arg5 harg5 arg6 harg6 arg7 harg7 arg8 harg8) K := by
  rw [k0_part15_eq_skeleton]
  unfold k0_part15_skel held owns
  iintro ⟨⟨⟨⟨%f0, %hf0, H0⟩, ⟨%f1, %hf1, H1⟩, ⟨%f2, %hf2, H2⟩, ⟨%f7, %hf7, H7⟩, ⟨%f8, %hf8, H8⟩⟩, ⟨%f3, %hf3, H3⟩, ⟨%f4, %hf4, H4⟩, ⟨%f5, %hf5, H5⟩⟩, Hk⟩
  subst hf0 hf1 hf2 hf8 hf3 hf4 hf5
  have e3 : arg3.view.read (Elt F) f3 = arg3.view.readAt (Elt F) (Rect.unit (s := S8x2048) ![0, 0] S8x2048.size inb_S8x2048_S8x2048_0_0).toLoadRect f3 := (View.readAt_full _ _ _).symm
  have e4 : arg4.view.read (Elt F) f4 = arg4.view.readAt (Elt F) (Rect.unit (s := S8x2048) ![0, 0] S8x2048.size inb_S8x2048_S8x2048_0_0).toLoadRect f4 := (View.readAt_full _ _ _).symm
  have e5 : arg5.view.read (Elt F) f5 = arg5.view.readAt (Elt F) (Rect.unit (s := S8x2048) ![0, 0] S8x2048.size inb_S8x2048_S8x2048_0_0).toLoadRect f5 := (View.readAt_full _ _ _).symm
  rw [e3, e4, e5]
  sl_exec
  sl_step
  delta part15_run.sl.cst_15 part15_run.sl.cst_16
  iapply Hk
  isplitl [H0 H1 H2 H7 H8]
  · isplitl [H0]
    · iexists _; isplitr [H0]; rotate_left
      · iexact H0
      · ipureintro; rfl
    isplitl [H1]
    · iexists _; isplitr [H1]; rotate_left
      · iexact H1
      · ipureintro; rfl
    isplitl [H2]
    · iexists _; isplitr [H2]; rotate_left
      · iexact H2
      · ipureintro; rfl
    isplitl [H7]
    · iexists _; isplitr [H7]; rotate_left
      · iexact H7
      · ipureintro; exact View.read_writes_full _ _ _ _ _
    iexists _; isplitr [H8]; rotate_left
    · iexact H8
    · ipureintro; rfl
  isplitl [H3]
  · iexists _; isplitr [H3]; rotate_left
    · iexact H3
    · ipureintro; exact e3
  isplitl [H4]
  · iexists _; isplitr [H4]; rotate_left
    · iexact H4
    · ipureintro; exact e4
  iexists _; isplitr [H5]; rotate_left
  · iexact H5
  · ipureintro; exact e5

/-- The whole body. -/
theorem kernel_run (c : Dev nD) (x0 x1 x2 : Vec F S2048x8 .f32) (y0 y1 y2 : Vec F S8x2048 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare y0 ∗ owns (c : Thread nD τ) arg4 fullShare y1 ∗ owns (c : Thread nD τ) arg5 fullShare y2
        ∗ (∃ d, owns (c : Thread nD τ) arg6 fullShare d) ∗ (∃ a, owns (c : Thread nD τ) arg7 fullShare a) ∗ (∃ b, owns (c : Thread nD τ) arg8 fullShare b)
        ∗ ((owns (c : Thread nD τ) arg0 fullShare x0 ∗ owns (c : Thread nD τ) arg1 fullShare x1 ∗ owns (c : Thread nD τ) arg2 fullShare x2
          ∗ owns (c : Thread nD τ) arg3 fullShare y0 ∗ owns (c : Thread nD τ) arg4 fullShare y1 ∗ owns (c : Thread nD τ) arg5 fullShare y2
          ∗ owns (c : Thread nD τ) arg6 fullShare (sums x0 x1 x2 y0 y1 y2) ∗ (∃ a, owns (c : Thread nD τ) arg7 fullShare a)
          ∗ (∃ b, owns (c : Thread nD τ) arg8 fullShare b)) -∗ K ⟨⟩))
      ⊢ wp frame (wpE (defs₀ (F := F)) 𝒱₀ c none) Set.univ
          (cc0__emd_body (F := F) arg0 harg0 arg1 harg1 arg2 harg2 arg3 harg3 arg4 harg4 arg5 harg5 arg6 harg6 arg7 harg7 arg8 harg8) K := by
  rw [cc0__emd_body_eq_skeleton]
  unfold cc0__emd_body_skel
  rw [wp_bind]
  iintro ⟨H0, H1, H2, H3, H4, H5, ⟨%d, H6⟩, ⟨%a, H7⟩, ⟨%b, H8⟩, Hk⟩
  iapply (part15_run arg0 harg0 arg1 harg1 arg2 harg2 arg3 harg3 arg4 harg4 arg5 harg5 arg6 harg6 arg7 harg7 arg8 harg8 c x0 x1 x2 y0 y1 y2 a b _)
  isplitl [H0 H1 H2 H3 H4 H5 H7 H8]
  · unfold held
    isplitl [H0 H1 H2 H7 H8]
    · isplitl [H0]; · iexact H0
      isplitl [H1]; · iexact H1
      isplitl [H2]; · iexact H2
      isplitl [H7]; · iexact H7
      iexact H8
    isplitl [H3]; · iexact H3
    isplitl [H4]; · iexact H4
    iexact H5
  iintro ⟨Hh, H3, H4, H5⟩
  dsimp only
  iapply (Scf.wp_for_bind frame (wpE (defs₀ (F := F)) 𝒱₀ c none) Set.univ _ _ _ _ _ _
    (inv arg0 arg1 arg2 arg7 arg8 c (k0_pay98 y0) (k0_pay99 y1) (k0_pay100 y2) x0 x1 x2)
    (inv_step arg0 harg0 arg1 harg1 arg2 harg2 arg3 harg3 arg4 harg4 arg5 harg5 arg6 harg6 arg7 harg7 arg8 harg8 c (k0_pay98 y0) (k0_pay99 y1) (k0_pay100 y2) x0 x1 x2)) $$ [Hh]
  · unfold inv
    isplitr
    · ipureintro; rfl
    iexists b
    iexact Hh
  iintro %acc Hi
  unfold inv held owns
  icases Hi with ⟨%hacc, %b', Hh⟩
  subst hacc
  icases H6 with ⟨%f6, %hf6, H6⟩
  icases Hh with ⟨H0, H1, H2, H7, H8⟩
  sl_exec
  sl_step
  iapply Hk
  isplitl [H0]; · iexact H0
  isplitl [H1]; · iexact H1
  isplitl [H2]; · iexact H2
  isplitl [H3]; · iexact H3
  isplitl [H4]; · iexact H4
  isplitl [H5]; · iexact H5
  isplitl [H6]
  · iexists _; isplitr [H6]; rotate_left
    · iexact H6
    · ipureintro; exact View.read_writes_full _ _ _ _ _
  isplitl [H7]
  · iexists _; iexact H7
  iexists _; iexact H8

end Body

end Cert.Proof.KernelIdeal

end
-- ==== Proof.KernelIdeal.Run.lean ====
module

public import proofs.«01_k».proof.Proof.KernelIdeal.Body

/-!
The run of the whole program from any memory, and what it leaves of the arguments.
-/

@[expose] public section

noncomputable section

namespace Cert.Proof.KernelIdeal

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F] [Named F]

/-- The proof's resource algebra: the frame kit's. -/
local notation "𝕄" => MT nD τ sig Unit (Elt F) ℕ (UR sig nD τ) ℕ

variable (m : (ℓ : Loc nD τ sig) → Buf (Elt F) ℓ) (ρ : Dev nD → PrngReg)

/-- The result's block: `sums` of the six coordinate blocks. -/
def outsAt (c : Dev nD) (t : Fin cfg0.N) : Vec F S8x128 .f32 :=
  sums (iblk m c 0 t) (iblk m c 1 t) (iblk m c 2 t) (iblk m c 3 t) (iblk m c 4 t) (iblk m c 5 t)

/-- The region's proof data: the arrays as the region finds them, each input block unchanged, the result's at `outsAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outsAt m c t
  Φ _ := Pipeline.ΦA spec0 c
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outsAt m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- What is kept between grid points: the two scratch buffers, holding anything, and the random register. -/
theorem PhiA_eq (c : Dev nD) : (Pipeline.ΦA spec0 c : sProp 𝕄) =
    iprop(((∃ a, owns (c : Thread nD τ) (Memref.whole cc0_scratch0) fullShare a) ∗ (∃ b, owns (c : Thread nD τ) (Memref.whole cc0_scratch1) fullShare b))
      ∗ ∃ r, prngReg c r) := by
  unfold Pipeline.ΦA
  rw [scopedRest0_eq]
  simp only [owns_whole]

theorem body_obligation (c : Dev nD) : BodyObligation (dats (F := F) m 0 c) (defs₀ (F := F)) 𝒱₀ () Set.univ := fun t => by
  rw [bigSep_W0, bigSep_W0]
  sl_whnfR [defs₀, Defs.onTc]
  simp only [before0_0, before0_1, before0_2, before0_3, before0_4, before0_5]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, after0_0, after0_1, after0_2, after0_3, after0_4, after0_5, after0_6, PhiA_eq]
  unfold outsAt
  iintro ⟨⟨⟨H7, H8⟩, Hp⟩, Ho, ⟨%d0, H0⟩, ⟨%d1, H1⟩, ⟨%d2, H2⟩, ⟨%d3, H3⟩, ⟨%d4, H4⟩, ⟨%d5, H5⟩, ⟨%d6, H6⟩⟩
  iapply (kernel_run _ _ _ _ _ _ _ _ _ _ _ _ _ _ _ _ _ _ c (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  isplitl [H8]; · iexact H8
  iintro ⟨H0, H1, H2, H3, H4, H5, H6, H7, H8⟩
  isplitl [H7 H8 Hp]
  · isplitl [H7 H8]
    · isplitl [H7]; · iexact H7
      iexact H8
    iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

set_option backward.isDefEq.respectTransparency.types false in
/-- Every run of the program ends, with the arrays at what the proof data say and every semaphore counter at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ 𝒱₀ m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m 𝒱₀) (hA := fun _ _ => rfl) (hΦ := fun _ _ => rfl)

/-- The program leaves its arguments as they were. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_with_sems (frame_of m ρ (dats m) fun _ _ => rfl) (run_main m ρ)

end Cert.Proof.KernelIdeal

end
-- ==== Proof.Reference.Run.lean ====
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter
public import Idealize.ShloMosaic.Lib.Quiescent

/-!
The reference's run: its operations before the loop, one trip of its loop, its operations after the loop, and the state of the
loop before every trip.
-/

@[expose] public section

noncomputable section

namespace Cert.Proof.Reference

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

/-- The row of distances of this trip. -/
abbrev trip0 : List (HloOp τ sig (Elt F)) :=
  [ StableHlo.TRef.nullary (.of main_while0b_call0_c : StableHlo.TRef sig ⟨S_, .i32⟩) (constantI S_ 32 0#32),
    StableHlo.TRef.nullary (.of main_while0b_call0_c_0 : StableHlo.TRef sig ⟨S_, .i32⟩) (constantI S_ 32 0#32),
    StableHlo.TRef.unaryIndexed (.of main_v10_0 : StableHlo.TRef sig ⟨S2048x8x2048, .f32⟩) ![(.of main_v10_1 : StableHlo.TRef sig ⟨S_, .i32⟩), (.of main_while0b_call0_c : StableHlo.TRef sig ⟨S_, .i32⟩), (.of main_while0b_call0_c_0 : StableHlo.TRef sig ⟨S_, .i32⟩)] (.of main_while0b_call0_v0 : StableHlo.TRef sig ⟨S1x8x2048, .f32⟩) (fun x i => Host.dynamicSlice S1x8x2048 x (fun k => (i k (Shape.Idx.first h_S_)).toInt) sliceFits_S2048x8x2048_S1x8x2048),
    StableHlo.TRef.reshape (.of main_while0b_call0_v0 : StableHlo.TRef sig ⟨S1x8x2048, .f32⟩) (.of main_while0b_v16 : StableHlo.TRef sig ⟨S8x2048, .f32⟩) (rfl : (.f32 : EltTy) = .f32) shapeCasts_S1x8x2048_S8x2048 ]
theorem trip0_sub : (trip0 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩
theorem trip0_fresh : (trip0 : List (HloOp τ sig (Elt F))).Forall fun op => op.fresh = ∅ :=
  StableHlo.forall_fresh_of_map rfl
abbrev trip0_W : List (Ref sig .tc) := [main_while0b_call0_c, main_while0b_call0_c_0, main_while0b_call0_v0, main_while0b_v16]
theorem trip0_writes : (trip0 : List (HloOp τ sig (Elt F))).Forall fun op => op.writes ⊆ (trip0_W.map (Proc.devRef (τ := τ) .tc)).toFinset :=
  StableHlo.forall_writes_sub_of_map rfl

/-- The constant `⊤`. -/
abbrev trip1 : List (HloOp τ sig (Elt F)) :=
  [ StableHlo.nullary main_while0b_cst_9 (constant S_ .f32 0x7F800000#32) ]
theorem trip1_sub : (trip1 : List (HloOp τ sig (Elt F))).Forall fun op => op.bufs ⊆ StableHlo.tcRefs τ sig :=
  StableHlo.nullary_bufs_sub ..
theorem trip1_fresh : (trip1 : List (HloOp τ sig (Elt F))).Forall fun op => op.fresh = ∅ :=
  StableHlo.forall_fresh_of_map rfl
abbrev trip1_W : List (Ref sig .tc) := [main_while0b_cst_9]
theorem trip1_writes : (trip1 : List (HloOp τ sig (Elt F))).Forall fun op => op.writes ⊆ (trip1_W.map (Proc.devRef (τ := τ) .tc)).toFinset :=
  StableHlo.forall_writes_sub_of_map rfl

/-- The row with the used columns at `⊤`. -/
abbrev trip2 : List (HloOp τ sig (Elt F)) :=
  [ StableHlo.TRef.unary (.of main_while0b_cst_9 : StableHlo.TRef sig ⟨S_, .f32⟩) (.of main_while0b_call1_v0 : StableHlo.TRef sig ⟨S_, .f32⟩) id,
    StableHlo.TRef.unary (.of main_while0b_call1_v0 : StableHlo.TRef sig ⟨S_, .f32⟩) (.of main_while0b_call1_v1 : StableHlo.TRef sig ⟨S8x2048, .f32⟩) (broadcastInDim S8x2048 ![] bcast_S_S8x2048),
    StableHlo.TRef.ternary (.of main_v10_2 : StableHlo.TRef sig ⟨S8x2048, .i1⟩) (.of main_while0b_call1_v1 : StableHlo.TRef sig ⟨S8x2048, .f32⟩) (.of main_while0b_v16 : StableHlo.TRef sig ⟨S8x2048, .f32⟩) (.of main_while0b_v17 : StableHlo.TRef sig ⟨S8x2048, .f32⟩) select ]
theorem trip2_sub : (trip2 : List (HloOp τ sig (Elt F))).Forall fun op => op.bufs ⊆ StableHlo.tcRefs τ sig :=
  ⟨StableHlo.unary_bufs_sub .., StableHlo.unary_bufs_sub .., StableHlo.ternary_bufs_sub ..⟩
theorem trip2_fresh : (trip2 : List (HloOp τ sig (Elt F))).Forall fun op => op.fresh = ∅ :=
  StableHlo.forall_fresh_of_map rfl
abbrev trip2_W : List (Ref sig .tc) := [main_while0b_call1_v0, main_while0b_call1_v1, main_while0b_v17]
theorem trip2_writes : (trip2 : List (HloOp τ sig (Elt F))).Forall fun op => op.writes ⊆ (trip2_W.map (Proc.devRef (τ := τ) .tc)).toFinset :=
  StableHlo.forall_writes_sub_of_map rfl

/-- The place of the least. -/
abbrev trip3 : List (HloOp τ sig (Elt F)) :=
  [ StableHlo.TRef.nullary (.of main_while0b_call2_v0 : StableHlo.TRef sig ⟨S8x2048, .i32⟩) (iotaInDim S8x2048 32 1),
    StableHlo.TRef.nullary (.of main_while0b_call2_cst : StableHlo.TRef sig ⟨S_, .f32⟩) (constant S_ .f32 0x7F800000#32),
    StableHlo.TRef.nullary (.of main_while0b_call2_c : StableHlo.TRef sig ⟨S_, .i32⟩) (constantI S_ 32 0#32),
    StableHlo.TRef.quaternary (.of main_while0b_v17 : StableHlo.TRef sig ⟨S8x2048, .f32⟩) (.of main_while0b_call2_v0 : StableHlo.TRef sig ⟨S8x2048, .i32⟩) (.of main_while0b_call2_cst : StableHlo.TRef sig ⟨S_, .f32⟩) (.of main_while0b_call2_c : StableHlo.TRef sig ⟨S_, .i32⟩) (.of main_while0b_call2_v1_0 : StableHlo.TRef sig ⟨S8, .f32⟩) (fun x y u v j => (Host.argReduce reducer_argmin_f32_i32 x y u v reducesTo_S8x2048_S8_d1 h_S_ j).1),
    StableHlo.TRef.quaternary (.of main_while0b_v17 : StableHlo.TRef sig ⟨S8x2048, .f32⟩) (.of main_while0b_call2_v0 : StableHlo.TRef sig ⟨S8x2048, .i32⟩) (.of main_while0b_call2_cst : StableHlo.TRef sig ⟨S_, .f32⟩) (.of main_while0b_call2_c : StableHlo.TRef sig ⟨S_, .i32⟩) (.of main_while0b_v18 : StableHlo.TRef sig ⟨S8, .i32⟩) (fun x y u v j => (Host.argReduce reducer_argmin_f32_i32 x y u v reducesTo_S8x2048_S8_d1 h_S_ j).2) ]
theorem trip3_sub : (trip3 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
theorem trip3_fresh : (trip3 : List (HloOp τ sig (Elt F))).Forall fun op => op.fresh = ∅ :=
  StableHlo.forall_fresh_of_map rfl
abbrev trip3_W : List (Ref sig .tc) := [main_while0b_call2_v0, main_while0b_call2_cst, main_while0b_call2_c, main_while0b_call2_v1_0, main_while0b_v18]
theorem trip3_writes : (trip3 : List (HloOp τ sig (Elt F))).Forall fun op => op.writes ⊆ (trip3_W.map (Proc.devRef (τ := τ) .tc)).toFinset :=
  StableHlo.forall_writes_sub_of_map rfl

/-- The least, and the used columns with the new one. -/
abbrev trip4 : List (HloOp τ sig (Elt F)) :=
  [ StableHlo.nullary main_while0b_cst_10 (constant S_ .f32 0x7F800000#32),
    StableHlo.binary main_while0b_v17 main_while0b_cst_10 main_while0b_v19 ((fun x v => Host.reduce FloatOps.minimumf x v reducesTo_S8x2048_S8_d1 h_S_) : (⟨S8x2048, .f32⟩ : BufTy).Contents (Elt F) → (⟨S_, .f32⟩ : BufTy).Contents (Elt F) → (⟨S8, .f32⟩ : BufTy).Contents (Elt F)),
    StableHlo.nullary main_while0b_v20 (iotaInDim S2048 32 0),
    StableHlo.unary main_while0b_v18 main_while0b_v21 (broadcastInDim S8x1 ![0] bcast_S8_S8x1_0 : (⟨S8, .i32⟩ : BufTy).Contents (Elt F) → (⟨S8x1, .i32⟩ : BufTy).Contents (Elt F)),
    StableHlo.unary main_while0b_v20 main_while0b_v22 (broadcastInDim S1x2048 ![1] bcast_S2048_S1x2048_1 : (⟨S2048, .i32⟩ : BufTy).Contents (Elt F) → (⟨S1x2048, .i32⟩ : BufTy).Contents (Elt F)),
    StableHlo.unary main_while0b_v22 main_while0b_v23 (broadcastInDim S8x2048 ![0, 1] bcast_S1x2048_S8x2048_0_1 : (⟨S1x2048, .i32⟩ : BufTy).Contents (Elt F) → (⟨S8x2048, .i32⟩ : BufTy).Contents (Elt F)),
    StableHlo.unary main_while0b_v21 main_while0b_v24 (broadcastInDim S8x2048 ![0, 1] bcast_S8x1_S8x2048_0_1 : (⟨S8x1, .i32⟩ : BufTy).Contents (Elt F) → (⟨S8x2048, .i32⟩ : BufTy).Contents (Elt F)),
    StableHlo.binary main_while0b_v23 main_while0b_v24 main_while0b_v25 (cmpi .eq : (⟨S8x2048, .i32⟩ : BufTy).Contents (Elt F) → (⟨S8x2048, .i32⟩ : BufTy).Contents (Elt F) → (⟨S8x2048, .i1⟩ : BufTy).Contents (Elt F)),
    StableHlo.binary main_v10_2 main_while0b_v25 main_while0b_v26 (ori : (⟨S8x2048, .i1⟩ : BufTy).Contents (Elt F) → (⟨S8x2048, .i1⟩ : BufTy).Contents (Elt F) → (⟨S8x2048, .i1⟩ : BufTy).Contents (Elt F)) ]
theorem trip4_sub : (trip4 : List (HloOp τ sig (Elt F))).Forall fun op => op.bufs ⊆ StableHlo.tcRefs τ sig :=
  ⟨StableHlo.nullary_bufs_sub .., StableHlo.binary_bufs_sub .., StableHlo.nullary_bufs_sub .., StableHlo.unary_bufs_sub .., StableHlo.unary_bufs_sub .., StableHlo.unary_bufs_sub .., StableHlo.unary_bufs_sub .., StableHlo.binary_bufs_sub .., StableHlo.binary_bufs_sub ..⟩
theorem trip4_fresh : (trip4 : List (HloOp τ sig (Elt F))).Forall fun op => op.fresh = ∅ :=
  StableHlo.forall_fresh_of_map rfl
abbrev trip4_W : List (Ref sig .tc) := [main_while0b_cst_10, main_while0b_v19, main_while0b_v20, main_while0b_v21, main_while0b_v22, main_while0b_v23, main_while0b_v24, main_while0b_v25, main_while0b_v26]
theorem trip4_writes : (trip4 : List (HloOp τ sig (Elt F))).Forall fun op => op.writes ⊆ (trip4_W.map (Proc.devRef (τ := τ) .tc)).toFinset :=
  StableHlo.forall_writes_sub_of_map rfl

/-- The least written at its row. -/
abbrev trip5 : List (HloOp τ sig (Elt F)) :=
  [ StableHlo.TRef.unary (.of main_while0b_v19 : StableHlo.TRef sig ⟨S8, .f32⟩) (.of main_while0b_call3_v0 : StableHlo.TRef sig ⟨S1x8, .f32⟩) (broadcastInDim S1x8 ![1] bcast_S8_S1x8_1),
    StableHlo.TRef.nullary (.of main_while0b_call3_c : StableHlo.TRef sig ⟨S_, .i32⟩) (constantI S_ 32 0#32),
    StableHlo.TRef.binaryIndexed (.of main_v10_3 : StableHlo.TRef sig ⟨S2048x8, .f32⟩) (.of main_while0b_call3_v0 : StableHlo.TRef sig ⟨S1x8, .f32⟩) ![(.of main_v10_1 : StableHlo.TRef sig ⟨S_, .i32⟩), (.of main_while0b_call3_c : StableHlo.TRef sig ⟨S_, .i32⟩)] (.of main_while0b_v27 : StableHlo.TRef sig ⟨S2048x8, .f32⟩) (fun x u i => Host.dynamicUpdateSlice x u (fun k => (i k (Shape.Idx.first h_S_)).toInt) updateFits_S2048x8_S1x8) ]
theorem trip5_sub : (trip5 : List (HloOp τ sig (Elt F))).Forall fun op => op.bufs ⊆ StableHlo.tcRefs τ sig :=
  ⟨StableHlo.unary_bufs_sub .., StableHlo.nullary_bufs_sub .., StableHlo.binaryIndexed_bufs_sub ..⟩
theorem trip5_fresh : (trip5 : List (HloOp τ sig (Elt F))).Forall fun op => op.fresh = ∅ :=
  StableHlo.forall_fresh_of_map rfl
abbrev trip5_W : List (Ref sig .tc) := [main_while0b_call3_v0, main_while0b_call3_c, main_while0b_v27]
theorem trip5_writes : (trip5 : List (HloOp τ sig (Elt F))).Forall fun op => op.writes ⊆ (trip5_W.map (Proc.devRef (τ := τ) .tc)).toFinset :=
  StableHlo.forall_writes_sub_of_map rfl

/-- The trip counter, and the carried values copied back. -/
abbrev trip6 : List (HloOp τ sig (Elt F)) :=
  [ StableHlo.nullary main_while0b_c_11 (constantI S_ 32 1#32),
    StableHlo.binary main_v10_1 main_while0b_c_11 main_while0b_v28 (addi : (⟨S_, .i32⟩ : BufTy).Contents (Elt F) → (⟨S_, .i32⟩ : BufTy).Contents (Elt F) → (⟨S_, .i32⟩ : BufTy).Contents (Elt F)),
    StableHlo.unary main_while0b_v28 main_v10_1 id,
    StableHlo.unary main_while0b_v26 main_v10_2 id,
    StableHlo.unary main_while0b_v27 main_v10_3 id ]
theorem trip6_sub : (trip6 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub ..⟩
theorem trip6_fresh : (trip6 : List (HloOp τ sig (Elt F))).Forall fun op => op.fresh = ∅ :=
  StableHlo.forall_fresh_of_map rfl
abbrev trip6_W : List (Ref sig .tc) := [main_while0b_c_11, main_while0b_v28, main_v10_1, main_v10_2, main_v10_3]
theorem trip6_writes : (trip6 : List (HloOp τ sig (Elt F))).Forall fun op => op.writes ⊆ (trip6_W.map (Proc.devRef (τ := τ) .tc)).toFinset :=
  StableHlo.forall_writes_sub_of_map rfl

/-- What the program does before its loop. -/
abbrev before : List (HloOp τ sig (Elt F)) :=
  [ StableHlo.unary main_arg0 main_v0 (broadcastInDim S8x2048x1x3 ![0, 1, 3] bcast_S8x2048x3_S8x2048x1x3_0_1_3 : (⟨S8x2048x3, .f32⟩ : BufTy).Contents (Elt F) → (⟨S8x2048x1x3, .f32⟩ : BufTy).Contents (Elt F)),
    StableHlo.unary main_arg1 main_v1 (broadcastInDim S8x1x2048x3 ![0, 2, 3] bcast_S8x2048x3_S8x1x2048x3_0_2_3 : (⟨S8x2048x3, .f32⟩ : BufTy).Contents (Elt F) → (⟨S8x1x2048x3, .f32⟩ : BufTy).Contents (Elt F)),
    StableHlo.unary main_v0 main_v2 (broadcastInDim S8x2048x2048x3 ![0, 1, 2, 3] bcast_S8x2048x1x3_S8x2048x2048x3_0_1_2_3 : (⟨S8x2048x1x3, .f32⟩ : BufTy).Contents (Elt F) → (⟨S8x2048x2048x3, .f32⟩ : BufTy).Contents (Elt F)),
    StableHlo.unary main_v1 main_v3 (broadcastInDim S8x2048x2048x3 ![0, 1, 2, 3] bcast_S8x1x2048x3_S8x2048x2048x3_0_1_2_3 : (⟨S8x1x2048x3, .f32⟩ : BufTy).Contents (Elt F) → (⟨S8x2048x2048x3, .f32⟩ : BufTy).Contents (Elt F)),
    StableHlo.binary main_v2 main_v3 main_v4 (subf : (⟨S8x2048x2048x3, .f32⟩ : BufTy).Contents (Elt F) → (⟨S8x2048x2048x3, .f32⟩ : BufTy).Contents (Elt F) → (⟨S8x2048x2048x3, .f32⟩ : BufTy).Contents (Elt F)),
    StableHlo.binary main_v4 main_v4 main_v5 (mulf : (⟨S8x2048x2048x3, .f32⟩ : BufTy).Contents (Elt F) → (⟨S8x2048x2048x3, .f32⟩ : BufTy).Contents (Elt F) → (⟨S8x2048x2048x3, .f32⟩ : BufTy).Contents (Elt F)),
    StableHlo.nullary main_cst (constant S_ .f32 0x00000000#32),
    StableHlo.binary main_v5 main_cst main_v6 ((fun x v => Host.reduceAdd x v reducesTo_S8x2048x2048x3_S8x2048x2048_d3 h_S_) : (⟨S8x2048x2048x3, .f32⟩ : BufTy).Contents (Elt F) → (⟨S_, .f32⟩ : BufTy).Contents (Elt F) → (⟨S8x2048x2048, .f32⟩ : BufTy).Contents (Elt F)),
    StableHlo.nullary main_c (constantI S_ 1 0#1),
    StableHlo.unary main_c main_v7 (broadcastInDim S8x2048 ![] bcast_S_S8x2048 : (⟨S_, .i1⟩ : BufTy).Contents (Elt F) → (⟨S8x2048, .i1⟩ : BufTy).Contents (Elt F)),
    StableHlo.unary main_v6 main_v8 ((transpose S2048x8x2048 [1, 0, 2] · transposes_S8x2048x2048_S2048x8x2048_1_0_2) : (⟨S8x2048x2048, .f32⟩ : BufTy).Contents (Elt F) → (⟨S2048x8x2048, .f32⟩ : BufTy).Contents (Elt F)),
    StableHlo.nullary main_cst_0 (constant S_ .f32 0x00000000#32),
    StableHlo.unary main_cst_0 main_v9 (broadcastInDim S2048x8 ![] bcast_S_S2048x8 : (⟨S_, .f32⟩ : BufTy).Contents (Elt F) → (⟨S2048x8, .f32⟩ : BufTy).Contents (Elt F)),
    StableHlo.nullary main_c_1 (constantI S_ 32 0#32),
    StableHlo.unary main_v8 main_v10_0 id,
    StableHlo.unary main_c_1 main_v10_1 id,
    StableHlo.unary main_v7 main_v10_2 id,
    StableHlo.unary main_v9 main_v10_3 id ]
theorem before_sub : (before : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.binary_bufs_sub .., StableHlo.binary_bufs_sub .., StableHlo.nullary_bufs_sub .., StableHlo.binary_bufs_sub .., StableHlo.nullary_bufs_sub .., StableHlo.unary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub ..⟩
theorem before_fresh : (before : List (HloOp τ sig (Elt F))).Forall fun op => op.fresh = ∅ :=
  StableHlo.forall_fresh_of_map rfl
abbrev before_W : List (Ref sig .tc) := [main_v0, main_v1, main_v2, main_v3, main_v4, main_v5, main_cst, main_v6, main_c, main_v7, main_v8, main_cst_0, main_v9, main_c_1, main_v10_0, main_v10_1, main_v10_2, main_v10_3]
theorem before_writes : (before : List (HloOp τ sig (Elt F))).Forall fun op => op.writes ⊆ (before_W.map (Proc.devRef (τ := τ) .tc)).toFinset :=
  StableHlo.forall_writes_sub_of_map rfl

/-- What the program does after its loop. -/
abbrev afterwards : List (HloOp τ sig (Elt F)) :=
  [ StableHlo.nullary main_cst_2 (constant S_ .f32 0x00000000#32),
    StableHlo.binary main_v10_3 main_cst_2 main_v11 ((fun x v => Host.reduceAdd x v reducesTo_S2048x8_S8_d0 h_S_) : (⟨S2048x8, .f32⟩ : BufTy).Contents (Elt F) → (⟨S_, .f32⟩ : BufTy).Contents (Elt F) → (⟨S8, .f32⟩ : BufTy).Contents (Elt F)),
    StableHlo.nullary main_cst_3 (constant S_ .f32 0x45000000#32),
    StableHlo.unary main_cst_3 main_v12 (broadcastInDim S8 ![] bcast_S_S8 : (⟨S_, .f32⟩ : BufTy).Contents (Elt F) → (⟨S8, .f32⟩ : BufTy).Contents (Elt F)),
    StableHlo.binary main_v11 main_v12 main_v13 (Host.divf : (⟨S8, .f32⟩ : BufTy).Contents (Elt F) → (⟨S8, .f32⟩ : BufTy).Contents (Elt F) → (⟨S8, .f32⟩ : BufTy).Contents (Elt F)),
    StableHlo.nullary main_cst_4 (constant S_ .f32 0x00000000#32),
    StableHlo.binary main_v13 main_cst_4 main_v14 ((fun x v => Host.reduceAdd x v reducesTo_S8_S_d0 h_S_) : (⟨S8, .f32⟩ : BufTy).Contents (Elt F) → (⟨S_, .f32⟩ : BufTy).Contents (Elt F) → (⟨S_, .f32⟩ : BufTy).Contents (Elt F)),
    StableHlo.nullary main_cst_5 (constant S_ .f32 0x41000000#32),
    StableHlo.binary main_v14 main_cst_5 main_v15 (Host.divf : (⟨S_, .f32⟩ : BufTy).Contents (Elt F) → (⟨S_, .f32⟩ : BufTy).Contents (Elt F) → (⟨S_, .f32⟩ : BufTy).Contents (Elt F)) ]
theorem afterwards_sub : (afterwards : List (HloOp τ sig (Elt F))).Forall fun op => op.bufs ⊆ StableHlo.tcRefs τ sig :=
  ⟨StableHlo.nullary_bufs_sub .., StableHlo.binary_bufs_sub .., StableHlo.nullary_bufs_sub .., StableHlo.unary_bufs_sub .., StableHlo.binary_bufs_sub .., StableHlo.nullary_bufs_sub .., StableHlo.binary_bufs_sub .., StableHlo.nullary_bufs_sub .., StableHlo.binary_bufs_sub ..⟩
theorem afterwards_fresh : (afterwards : List (HloOp τ sig (Elt F))).Forall fun op => op.fresh = ∅ :=
  StableHlo.forall_fresh_of_map rfl
abbrev afterwards_W : List (Ref sig .tc) := [main_cst_2, main_v11, main_cst_3, main_v12, main_v13, main_cst_4, main_v14, main_cst_5, main_v15]
theorem afterwards_writes : (afterwards : List (HloOp τ sig (Elt F))).Forall fun op => op.writes ⊆ (afterwards_W.map (Proc.devRef (τ := τ) .tc)).toFinset :=
  StableHlo.forall_writes_sub_of_map rfl

theorem body_chain : main_while0_body (F := F) = (Pipeline.chain [StableHlo.seq trip0, StableHlo.seq trip1, StableHlo.seq trip2, StableHlo.seq trip3, StableHlo.seq trip4, StableHlo.seq trip5, StableHlo.seq trip6] : Prog (TpuEff nD τ sig (Elt F) (HostLoop.Sig (Pipeline.Sig Λ₀ (Fin 0) fun p => (pcfgs (F := F) p).Adm) 1) .tc) PUnit) := by
  rewrite [Pipeline.chain_cons, StableHlo.chain_seq_cons, Pipeline.chain_cons, Pipeline.chain_cons, StableHlo.chain_seq_cons, Pipeline.chain_cons, StableHlo.chain_seq_cons]
  chain_rfl

theorem main_chain (c : Dev nD) : main (F := F) c = (Pipeline.chain [StableHlo.seq before, HostLoop.enter 0, StableHlo.seq afterwards] : Prog (TpuEff nD τ sig (Elt F) (HostLoop.Sig (Pipeline.Sig Λ₀ (Fin 0) fun p => (pcfgs (F := F) p).Adm) 1) .tc) PUnit) := by
  rewrite [StableHlo.chain_seq_cons, Pipeline.chain_cons, StableHlo.chain_seq_cons]
  chain_rfl

/-- The loop's condition: the counter against the number of rows. -/
abbrev test : List (HloOp τ sig (Elt F)) :=
  [ StableHlo.nullary main_while0c_c_9 (constantI S_ 32 2048#32),
    StableHlo.binary main_v10_1 main_while0c_c_9 main_while0c_v16 (cmpi .slt) ]
abbrev test_W : List (Ref sig .tc) := [main_while0c_c_9, main_while0c_v16]
theorem test_writes : (test : List (HloOp τ sig (Elt F))).Forall fun op => op.writes ⊆ (test_W.map (Proc.devRef (τ := τ) .tc)).toFinset :=
  StableHlo.forall_writes_sub_of_map rfl

abbrev preI : List (List (HloOp τ sig (Elt F))) := [before]
abbrev bodyI : List (List (HloOp τ sig (Elt F))) := [trip0, trip1, trip2, trip3, trip4, trip5, trip6]
abbrev postI : List (List (HloOp τ sig (Elt F))) := [afterwards]

theorem hpre : Plain (preI (F := F)) := .cons before_sub (hf := List.forall_iff_forall_mem.mp before_fresh) .nil
theorem hbody : Plain (bodyI (F := F)) :=
  .cons trip0_sub (hf := List.forall_iff_forall_mem.mp trip0_fresh) <| .cons trip1_sub (hf := List.forall_iff_forall_mem.mp trip1_fresh) <|
  .cons trip2_sub (hf := List.forall_iff_forall_mem.mp trip2_fresh) <| .cons trip3_sub (hf := List.forall_iff_forall_mem.mp trip3_fresh) <|
  .cons trip4_sub (hf := List.forall_iff_forall_mem.mp trip4_fresh) <| .cons trip5_sub (hf := List.forall_iff_forall_mem.mp trip5_fresh) <|
  .cons trip6_sub (hf := List.forall_iff_forall_mem.mp trip6_fresh) .nil
theorem hpost : Plain (postI (F := F)) := .cons afterwards_sub (hf := List.forall_iff_forall_mem.mp afterwards_fresh) .nil

/-! ## What a stretch keeps -/

theorem test_keeps (V : Valuation τ sig (Elt F)) (b : Ref sig .tc) (h : b ∉ test_W) :
    after test V (Proc.devRef .tc b) = V (Proc.devRef .tc b) := after_of_writes_sub test V test_writes h
theorem trip0_keeps (V : Valuation τ sig (Elt F)) (b : Ref sig .tc) (h : b ∉ trip0_W) :
    after trip0 V (Proc.devRef .tc b) = V (Proc.devRef .tc b) := after_of_writes_sub trip0 V trip0_writes h
theorem trip1_keeps (V : Valuation τ sig (Elt F)) (b : Ref sig .tc) (h : b ∉ trip1_W) :
    after trip1 V (Proc.devRef .tc b) = V (Proc.devRef .tc b) := after_of_writes_sub trip1 V trip1_writes h
theorem trip2_keeps (V : Valuation τ sig (Elt F)) (b : Ref sig .tc) (h : b ∉ trip2_W) :
    after trip2 V (Proc.devRef .tc b) = V (Proc.devRef .tc b) := after_of_writes_sub trip2 V trip2_writes h
theorem trip3_keeps (V : Valuation τ sig (Elt F)) (b : Ref sig .tc) (h : b ∉ trip3_W) :
    after trip3 V (Proc.devRef .tc b) = V (Proc.devRef .tc b) := after_of_writes_sub trip3 V trip3_writes h
theorem trip4_keeps (V : Valuation τ sig (Elt F)) (b : Ref sig .tc) (h : b ∉ trip4_W) :
    after trip4 V (Proc.devRef .tc b) = V (Proc.devRef .tc b) := after_of_writes_sub trip4 V trip4_writes h
theorem trip5_keeps (V : Valuation τ sig (Elt F)) (b : Ref sig .tc) (h : b ∉ trip5_W) :
    after trip5 V (Proc.devRef .tc b) = V (Proc.devRef .tc b) := after_of_writes_sub trip5 V trip5_writes h
theorem trip6_keeps (V : Valuation τ sig (Elt F)) (b : Ref sig .tc) (h : b ∉ trip6_W) :
    after trip6 V (Proc.devRef .tc b) = V (Proc.devRef .tc b) := after_of_writes_sub trip6 V trip6_writes h
theorem before_keeps (V : Valuation τ sig (Elt F)) (b : Ref sig .tc) (h : b ∉ before_W) :
    after before V (Proc.devRef .tc b) = V (Proc.devRef .tc b) := after_of_writes_sub before V before_writes h
theorem afterwards_keeps (V : Valuation τ sig (Elt F)) (b : Ref sig .tc) (h : b ∉ afterwards_W) :
    after afterwards V (Proc.devRef .tc b) = V (Proc.devRef .tc b) := after_of_writes_sub afterwards V afterwards_writes h

/-! ## One trip -/

/-- The row `i` of the distances `d`. -/
def rowAt (d : FVec F S2048x8x2048 .f32) (i : IVec S_ 32) : FVec F S8x2048 .f32 :=
  shapeCast S8x2048 (Host.dynamicSlice S1x8x2048 d (fun k => ((![i, constantI S_ 32 0#32, constantI S_ 32 0#32] : Fin 3 → IVec S_ 32) k (Shape.Idx.first h_S_)).toInt) sliceFits_S2048x8x2048_S1x8x2048) shapeCasts_S1x8x2048_S8x2048

/-- A row with the used columns at the infinity. -/
def unused (used : IVec S8x2048 1) (row : FVec F S8x2048 .f32) : FVec F S8x2048 .f32 :=
  select used (broadcastInDim S8x2048 ![] bcast_S_S8x2048 (constant S_ .f32 0x7F800000#32 : FVec F S_ .f32)) row

/-- The place of the least of every batch. -/
def placeOf (d : FVec F S8x2048 .f32) : IVec S8 32 :=
  fun j => (Host.argReduce reducer_argmin_f32_i32 d (iotaInDim S8x2048 32 1) (constant S_ .f32 0x7F800000#32) (constantI S_ 32 0#32) reducesTo_S8x2048_S8_d1 h_S_ j).2

/-- The least of every batch. -/
def leastOf (d : FVec F S8x2048 .f32) : FVec F S8 .f32 :=
  Host.reduce FloatOps.minimumf d (constant S_ .f32 0x7F800000#32 : FVec F S_ .f32) reducesTo_S8x2048_S8_d1 h_S_

/-- The used columns with one more of every batch. -/
def usedWith (used : IVec S8x2048 1) (j : IVec S8 32) : IVec S8x2048 1 :=
  ori used (cmpi .eq (broadcastInDim S8x2048 ![0, 1] bcast_S1x2048_S8x2048_0_1 (broadcastInDim S1x2048 ![1] bcast_S2048_S1x2048_1 (iotaInDim S2048 32 0)))
    (broadcastInDim S8x2048 ![0, 1] bcast_S8x1_S8x2048_0_1 (broadcastInDim S8x1 ![0] bcast_S8_S8x1_0 j)))

/-- The results with the row `i` written. -/
def written (out : FVec F S2048x8 .f32) (v : FVec F S8 .f32) (i : IVec S_ 32) : FVec F S2048x8 .f32 :=
  Host.dynamicUpdateSlice out (broadcastInDim S1x8 ![1] bcast_S8_S1x8_1 v)
    (fun k => ((![i, constantI S_ 32 0#32] : Fin 2 → IVec S_ 32) k (Shape.Idx.first h_S_)).toInt) updateFits_S2048x8_S1x8

set_option maxRecDepth 100000

set_option maxHeartbeats 4000000 in
theorem at0 (V : Valuation τ sig (Elt F)) : after trip0 V (Proc.devRef .tc main_while0b_v16) = rowAt (V (Proc.devRef .tc main_v10_0)) (V (Proc.devRef .tc main_v10_1)) := by
  after_results_entrywise [cast_eq]
theorem at1 (V : Valuation τ sig (Elt F)) : after trip1 V (Proc.devRef .tc main_while0b_cst_9) = (constant S_ .f32 0x7F800000#32 : FVec F S_ .f32) := by
  after_results
theorem at2 (V : Valuation τ sig (Elt F)) (h : V (Proc.devRef .tc main_while0b_cst_9) = (constant S_ .f32 0x7F800000#32 : FVec F S_ .f32)) :
    after trip2 V (Proc.devRef .tc main_while0b_v17) = unused (V (Proc.devRef .tc main_v10_2)) (V (Proc.devRef .tc main_while0b_v16)) := by
  unfold unused
  rw [← h]
  after_results
  rfl
theorem at3 (V : Valuation τ sig (Elt F)) : after trip3 V (Proc.devRef .tc main_while0b_v18) = placeOf (V (Proc.devRef .tc main_while0b_v17)) := by
  after_results
  rfl
theorem at4_least (V : Valuation τ sig (Elt F)) : after trip4 V (Proc.devRef .tc main_while0b_v19) = leastOf (V (Proc.devRef .tc main_while0b_v17)) := by
  after_results
  rfl
theorem at4_used (V : Valuation τ sig (Elt F)) : after trip4 V (Proc.devRef .tc main_while0b_v26) = usedWith (V (Proc.devRef .tc main_v10_2)) (V (Proc.devRef .tc main_while0b_v18)) := by
  after_results
  rfl
set_option maxHeartbeats 4000000 in
theorem at5 (V : Valuation τ sig (Elt F)) : after trip5 V (Proc.devRef .tc main_while0b_v27) = written (V (Proc.devRef .tc main_v10_3)) (V (Proc.devRef .tc main_while0b_v19)) (V (Proc.devRef .tc main_v10_1)) := by
  after_results_entrywise [cast_eq]
theorem at6_count (V : Valuation τ sig (Elt F)) : after trip6 V (Proc.devRef .tc main_v10_1) = addi (V (Proc.devRef .tc main_v10_1)) (constantI S_ 32 1#32) := by
  after_results
  rfl
theorem at6_used (V : Valuation τ sig (Elt F)) : after trip6 V (Proc.devRef .tc main_v10_2) = V (Proc.devRef .tc main_while0b_v26) := by
  after_results
  rfl
theorem at6_out (V : Valuation τ sig (Elt F)) : after trip6 V (Proc.devRef .tc main_v10_3) = V (Proc.devRef .tc main_while0b_v27) := by
  after_results
  rfl

/-- A buffer that neither the condition nor the trip writes is kept. -/
theorem trip_keeps (V : Valuation τ sig (Elt F)) (b : Ref sig .tc)
    (h : b ∉ test_W ++ trip0_W ++ trip1_W ++ trip2_W ++ trip3_W ++ trip4_W ++ trip5_W ++ trip6_W) :
    afterL bodyI (after test V) (Proc.devRef .tc b) = V (Proc.devRef .tc b) := by
  simp only [List.mem_append, not_or] at h
  obtain ⟨⟨⟨⟨⟨⟨⟨ht, h0⟩, h1⟩, h2⟩, h3⟩, h4⟩, h5⟩, h6⟩ := h
  simp only [bodyI, afterL_cons, afterL_nil]
  rw [trip6_keeps _ _ h6, trip5_keeps _ _ h5, trip4_keeps _ _ h4, trip3_keeps _ _ h3, trip2_keeps _ _ h2, trip1_keeps _ _ h1, trip0_keeps _ _ h0, test_keeps _ _ ht]

theorem trip_count (V : Valuation τ sig (Elt F)) :
    afterL bodyI (after test V) (Proc.devRef .tc main_v10_1) = addi (V (Proc.devRef .tc main_v10_1)) (constantI S_ 32 1#32) := by
  simp only [bodyI, afterL_cons, afterL_nil]
  rw [at6_count, trip5_keeps _ _ (by decide +kernel), trip4_keeps _ _ (by decide +kernel), trip3_keeps _ _ (by decide +kernel), trip2_keeps _ _ (by decide +kernel), trip1_keeps _ _ (by decide +kernel), trip0_keeps _ _ (by decide +kernel), test_keeps _ _ (by decide +kernel)]

/-- The row of the trip, the used columns left out. -/
abbrev dOf (V : Valuation τ sig (Elt F)) : FVec F S8x2048 .f32 :=
  unused (V (Proc.devRef .tc main_v10_2)) (rowAt (V (Proc.devRef .tc main_v10_0)) (V (Proc.devRef .tc main_v10_1)))

theorem upto2 (V : Valuation τ sig (Elt F)) :
    after trip2 (after trip1 (after trip0 (after test V))) (Proc.devRef .tc main_while0b_v17) = dOf V := by
  rw [at2 _ (at1 _), trip1_keeps _ main_v10_2 (by decide +kernel), trip0_keeps _ main_v10_2 (by decide +kernel), test_keeps _ main_v10_2 (by decide +kernel),
    trip1_keeps _ main_while0b_v16 (by decide +kernel), at0, test_keeps _ main_v10_0 (by decide +kernel), test_keeps _ main_v10_1 (by decide +kernel)]

theorem trip_used (V : Valuation τ sig (Elt F)) :
    afterL bodyI (after test V) (Proc.devRef .tc main_v10_2) = usedWith (V (Proc.devRef .tc main_v10_2)) (placeOf (dOf V)) := by
  simp only [bodyI, afterL_cons, afterL_nil]
  rw [at6_used, trip5_keeps _ _ (by decide +kernel), at4_used, at3, upto2, trip3_keeps _ main_v10_2 (by decide +kernel), trip2_keeps _ main_v10_2 (by decide +kernel),
    trip1_keeps _ main_v10_2 (by decide +kernel), trip0_keeps _ main_v10_2 (by decide +kernel), test_keeps _ main_v10_2 (by decide +kernel)]

theorem trip_out (V : Valuation τ sig (Elt F)) :
    afterL bodyI (after test V) (Proc.devRef .tc main_v10_3) = written (V (Proc.devRef .tc main_v10_3)) (leastOf (dOf V)) (V (Proc.devRef .tc main_v10_1)) := by
  simp only [bodyI, afterL_cons, afterL_nil]
  rw [at6_out, at5, at4_least, trip3_keeps _ main_while0b_v17 (by decide +kernel), upto2,
    trip4_keeps _ main_v10_3 (by decide +kernel), trip3_keeps _ main_v10_3 (by decide +kernel), trip2_keeps _ main_v10_3 (by decide +kernel),
    trip1_keeps _ main_v10_3 (by decide +kernel), trip0_keeps _ main_v10_3 (by decide +kernel), test_keeps _ main_v10_3 (by decide +kernel),
    trip4_keeps _ main_v10_1 (by decide +kernel), trip3_keeps _ main_v10_1 (by decide +kernel), trip2_keeps _ main_v10_1 (by decide +kernel),
    trip1_keeps _ main_v10_1 (by decide +kernel), trip0_keeps _ main_v10_1 (by decide +kernel), test_keeps _ main_v10_1 (by decide +kernel)]

/-! ## Before and after the loop -/

/-- The squared distances, a row of the first cloud at a time. -/
def distances (x y : FVec F S8x2048x3 .f32) : FVec F S2048x8x2048 .f32 :=
  let diff := subf (broadcastInDim S8x2048x2048x3 ![0, 1, 2, 3] bcast_S8x2048x1x3_S8x2048x2048x3_0_1_2_3 (broadcastInDim S8x2048x1x3 ![0, 1, 3] bcast_S8x2048x3_S8x2048x1x3_0_1_3 x))
    (broadcastInDim S8x2048x2048x3 ![0, 1, 2, 3] bcast_S8x1x2048x3_S8x2048x2048x3_0_1_2_3 (broadcastInDim S8x1x2048x3 ![0, 2, 3] bcast_S8x2048x3_S8x1x2048x3_0_2_3 y))
  transpose S2048x8x2048 [1, 0, 2] (Host.reduceAdd (mulf diff diff) (constant S_ .f32 0x00000000#32 : FVec F S_ .f32) reducesTo_S8x2048x2048x3_S8x2048x2048_d3 h_S_) transposes_S8x2048x2048_S2048x8x2048_1_0_2

/-- The mean over the batches of the mean over the rows. -/
def mean (out : FVec F S2048x8 .f32) : FVec F S_ .f32 :=
  Host.divf (Host.reduceAdd (Host.divf (Host.reduceAdd out (constant S_ .f32 0x00000000#32 : FVec F S_ .f32) reducesTo_S2048x8_S8_d0 h_S_)
      (broadcastInDim S8 ![] bcast_S_S8 (constant S_ .f32 0x45000000#32 : FVec F S_ .f32)))
    (constant S_ .f32 0x00000000#32 : FVec F S_ .f32) reducesTo_S8_S_d0 h_S_) (constant S_ .f32 0x41000000#32 : FVec F S_ .f32)

def noneUsed : IVec S8x2048 1 := broadcastInDim S8x2048 ![] bcast_S_S8x2048 (constantI S_ 1 0#1)
def noResult : FVec F S2048x8 .f32 := broadcastInDim S2048x8 ![] bcast_S_S2048x8 (constant S_ .f32 0x00000000#32 : FVec F S_ .f32)

theorem before_dist (V : Valuation τ sig (Elt F)) : after before V (Proc.devRef .tc main_v10_0) = distances (V (Proc.devRef .tc main_arg0)) (V (Proc.devRef .tc main_arg1)) := by
  after_results
  rfl
theorem before_count (V : Valuation τ sig (Elt F)) : after before V (Proc.devRef .tc main_v10_1) = constantI S_ 32 0#32 := by
  after_results
  rfl
theorem before_used (V : Valuation τ sig (Elt F)) : after before V (Proc.devRef .tc main_v10_2) = noneUsed := by
  after_results
  rfl
theorem before_out (V : Valuation τ sig (Elt F)) : after before V (Proc.devRef .tc main_v10_3) = noResult := by
  after_results
  rfl
theorem afterwards_mean (V : Valuation τ sig (Elt F)) : after afterwards V (Proc.devRef .tc main_v15) = mean (V (Proc.devRef .tc main_v10_3)) := by
  after_results
  rfl

/-! ## The run -/

/-- The used columns and the results before trip `k`. -/
def stateAt (d : FVec F S2048x8x2048 .f32) : ℕ → IVec S8x2048 1 × FVec F S2048x8 .f32
  | 0 => (noneUsed, noResult)
  | k + 1 =>
    let s := stateAt d k
    let row := unused s.1 (rowAt d fun _ => Scf.iv 0#32 1#32 k)
    (usedWith s.1 (placeOf row), written s.2 (leastOf row) fun _ => Scf.iv 0#32 1#32 k)

variable (m : (ℓ : Loc nD τ sig) → Buf (Elt F) ℓ) (ρ : Dev nD → PrngReg)

abbrev atK (k : ℕ) (c : Dev nD) : Valuation τ sig (Elt F) := atTrip test bodyI (entryContents preI m) k c

theorem atK_zero (c : Dev nD) : atK m 0 c = after before (fun b => m (c, b)) := rfl
theorem atK_succ (k : ℕ) (c : Dev nD) : atK m (k + 1) c = afterL bodyI (after test (atK m k c)) := rfl

theorem atK_count (c : Dev nD) : ∀ k, atK m k c (Proc.devRef .tc main_v10_1) = fun _ => Scf.iv 0#32 1#32 k
  | 0 => by rw [atK_zero, before_count, Scf.iv_zero]; rfl
  | k + 1 => by rw [atK_succ, trip_count, atK_count c k, Scf.iv_succ]; rfl

theorem atK_keeps (c : Dev nD) (b : Ref sig .tc)
    (h : b ∉ test_W ++ trip0_W ++ trip1_W ++ trip2_W ++ trip3_W ++ trip4_W ++ trip5_W ++ trip6_W) :
    ∀ k, atK m k c (Proc.devRef .tc b) = atK m 0 c (Proc.devRef .tc b)
  | 0 => rfl
  | k + 1 => by rw [atK_succ, trip_keeps _ b h, atK_keeps c b h k]

/-- The distances of a memory's two clouds. -/
abbrev distOf (c : Dev nD) : FVec F S2048x8x2048 .f32 := distances (m ((c.tc : Thread nD τ).loc main_arg0)) (m ((c.tc : Thread nD τ).loc main_arg1))

theorem atK_dist (c : Dev nD) (k : ℕ) : atK m k c (Proc.devRef .tc main_v10_0) = distOf m c := by
  rw [atK_keeps m c main_v10_0 (by decide +kernel) k, atK_zero, before_dist]

theorem atK_state (c : Dev nD) : ∀ k, atK m k c (Proc.devRef .tc main_v10_2) = (stateAt (distOf m c) k).1 ∧
    atK m k c (Proc.devRef .tc main_v10_3) = (stateAt (distOf m c) k).2
  | 0 => by rw [atK_zero, before_used, before_out]; exact ⟨rfl, rfl⟩
  | k + 1 => by
    obtain ⟨h1, h2⟩ := atK_state c k
    rw [atK_succ, trip_used, trip_out, dOf, h1, h2, atK_dist, atK_count]
    exact ⟨rfl, rfl⟩

-- `iapply` at the TensorCore thread of a rule for any thread unifies only when types may be unfolded
set_option backward.isDefEq.respectTransparency.types false in
theorem cond_spec : CondSpec (pcfgs (F := F)) defs₀ loops (main_while0_cond (F := F)) test bodyI (entryContents preI m) 2048 := by
  intro k hk c bd
  have count := atK_count m c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]
    · iexact Hb
    · iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]
    · iexact Hb
    · iexact Hh
  iintro ⟨Hb, Hh⟩
  rw [HostLoop.elt_apply, wp_ret]; imodintro
  isplitr
  · ipureintro
    show Iff (IntOp.cmpi .slt (HloOp.result _ (atK m k c) main_v10_1 HostLoop.idx0)
        (HloOp.result _ (atK m k c) main_while0c_c_9 HostLoop.idx0) = 1#1) (k < 2048)
    rw [nullary_result_ne _ _ _ _ (by decide), nullary_result, count]
    exact Scf.cmpi_slt_iv_ub_iff (lb := 0#32) (ub := 2048#32) (st := 1#32) (by decide) (show k ≤ Scf.trips 0#32 2048#32 1#32 from hk)
  isplitl [Hb]
  · iexact Hb
  rw [after_cons, after_cons, after_nil]
  iexact Hh

theorem run_all : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = finalContents test preI bodyI postI 2048 m c (Proc.devRef .tc b)) :=
  run_loop (pcfgs (F := F)) defs₀ loops main 0 main_while0_cond main_while0_body rfl preI bodyI postI test hpre hbody hpost
    (fun c => by rw [main_chain]; rfl) (by rw [body_chain]; rfl) 2048 m ρ (cond_spec m)

theorem final_eq (c : Dev nD) : finalContents test preI bodyI postI 2048 m c = after afterwards (after test (atK m 2048 c)) := rfl

/-- The reference's run: the result is the mean of the greedy matching's distances, the arguments are kept. -/
theorem run : θ_run (defs (F := F)) (onTc (τ := τ) (main (F := F))) ⟨m, fun _ => 0, ρ⟩
    (fun r => ∀ c : Dev nD, r.2.mem ((c.tc : Thread nD τ).loc main_v15) = mean (stateAt (distOf m c) 2048).2 ∧
      r.2.mem ((c.tc : Thread nD τ).loc main_arg0) = m ((c.tc : Thread nD τ).loc main_arg0) ∧
      r.2.mem ((c.tc : Thread nD τ).loc main_arg1) = m ((c.tc : Thread nD τ).loc main_arg1)) := by
  refine (θ_run _ _ _).mono (fun r h c => ⟨?_, ?_, ?_⟩) (run_all m ρ)
  · rw [h c main_v15 rfl, final_eq, afterwards_mean, test_keeps _ main_v10_3 (by decide +kernel), (atK_state m c 2048).2]
  · rw [h c main_arg0 rfl, final_eq, afterwards_keeps _ main_arg0 (by decide +kernel), test_keeps _ main_arg0 (by decide +kernel),
      atK_keeps m c main_arg0 (by decide +kernel), atK_zero, before_keeps _ main_arg0 (by decide +kernel)]
  · rw [h c main_arg1 rfl, final_eq, afterwards_keeps _ main_arg1 (by decide +kernel), test_keeps _ main_arg1 (by decide +kernel),
      atK_keeps m c main_arg1 (by decide +kernel), atK_zero, before_keeps _ main_arg1 (by decide +kernel)]

end Cert.Proof.Reference

end
-- ==== Proof.Value.Greedy.lean ====
module

public import Mathlib.Data.EReal.Basic
public import Mathlib.Data.EReal.Operations
public import Mathlib.Data.Finset.Max
public import Mathlib.Algebra.BigOperators.Fin
public import Mathlib.Data.Finset.Lattice.Fold

/-!
Greedy matching, as mathematics: the least of a row over the columns that are not yet used, the first column that has it, and
the columns used after a number of rows. Four rows worked out against one set of used columns give the same as in turn when
their columns differ.
-/

@[expose] public section

noncomputable section

namespace Cert.Proof.Greedy

/-- The columns. -/
abbrev Col := Fin 2048

/-- A row with the used columns at infinity. -/
def opened (U : Finset Col) (r : Col → EReal) (i : Col) : EReal := if i ∈ U then ⊤ else r i

/-- The least over the unused columns. -/
def val (U : Finset Col) (r : Col → EReal) : EReal := Finset.univ.inf (opened U r)

/-- The columns that have the least. -/
def best (U : Finset Col) (r : Col → EReal) : Finset Col := Finset.univ.filter fun i => opened U r i = val U r

/-- Some column has the least. -/
theorem best_nonempty (U : Finset Col) (r : Col → EReal) : (best U r).Nonempty := by
  obtain ⟨i, -, h⟩ := Finset.exists_mem_eq_inf (Finset.univ : Finset Col) ⟨0, Finset.mem_univ 0⟩ (opened U r)
  exact ⟨i, Finset.mem_filter.mpr ⟨Finset.mem_univ i, h.symm⟩⟩

/-- The first column that has the least. -/
def col (U : Finset Col) (r : Col → EReal) : Col := (best U r).min' (best_nonempty U r)

/-- The least is below every open entry. -/
theorem val_le (U : Finset Col) (r : Col → EReal) (i : Col) : val U r ≤ opened U r i := Finset.inf_le (Finset.mem_univ i)

/-- The first column that has the least has it. -/
theorem opened_col (U : Finset Col) (r : Col → EReal) : opened U r (col U r) = val U r :=
  (Finset.mem_filter.mp ((best U r).min'_mem (best_nonempty U r))).2

/-- No column before the first has the least. -/
theorem col_le (U : Finset Col) (r : Col → EReal) (i : Col) (h : opened U r i = val U r) : col U r ≤ i :=
  Finset.min'_le _ _ (Finset.mem_filter.mpr ⟨Finset.mem_univ i, h⟩)

/-- A number that no entry is below and that is an entry is the least. -/
theorem val_unique {U : Finset Col} {r : Col → EReal} {v : EReal} (h : ∀ i, v ≤ opened U r i) (j : Col) (hj : opened U r j = v) : val U r = v :=
  le_antisymm ((val_le U r j).trans hj.le) (Finset.le_inf fun i _ => h i)

/-- A column that has the least, with none before it that has, is the first. -/
theorem col_unique {U : Finset Col} {r : Col → EReal} {j : Col} (hj : opened U r j = val U r)
    (h : ∀ i, opened U r i = val U r → j ≤ i) : col U r = j :=
  le_antisymm (col_le U r j hj) (h _ (opened_col U r))

/-- More used columns only raise the entries. -/
theorem opened_mono {U V : Finset Col} (h : U ⊆ V) (r : Col → EReal) (i : Col) : opened U r i ≤ opened V r i := by
  unfold opened
  by_cases hU : i ∈ U
  · rw [if_pos hU, if_pos (h hU)]
  · rw [if_neg hU]
    split
    · exact le_top
    · exact le_rfl

/-- More used columns change nothing when the first column with the least is not among the new ones. -/
theorem more_used {U V : Finset Col} (h : U ⊆ V) (r : Col → EReal) (hc : col U r ∈ V → col U r ∈ U) :
    val V r = val U r ∧ col V r = col U r := by
  have e : opened V r (col U r) = val U r := by
    rw [← opened_col U r]
    unfold opened
    by_cases hU : col U r ∈ U
    · rw [if_pos hU, if_pos (h hU)]
    · rw [if_neg hU, if_neg fun hV => hU (hc hV)]
  have hv : val V r = val U r := val_unique (fun i => (val_le U r i).trans (opened_mono h r i)) _ e
  refine ⟨hv, col_unique (e.trans hv.symm) fun i hi => col_le U r i (le_antisymm ?_ (val_le U r i))⟩
  exact (opened_mono h r i).trans (hi.trans hv).le

/-- The columns used after one more row. -/
def use (U : Finset Col) (r : Col → EReal) : Finset Col := insert (col U r) U

/-- A column once used stays used. -/
theorem subset_use (U : Finset Col) (r : Col → EReal) : U ⊆ use U r := Finset.subset_insert _ _

/-- Two columns used up. -/
theorem more_used_one (U : Finset Col) (c0 : Col) (r : Col → EReal) (h0 : c0 ≠ col U r) :
    val (insert c0 U) r = val U r ∧ col (insert c0 U) r = col U r :=
  more_used (Finset.subset_insert _ _) r fun h => (Finset.mem_insert.mp h).resolve_left fun e => h0 e.symm

/-- Rows with different columns, taken in turn, get what they get against one set of used columns. -/
theorem in_turn (U : Finset Col) (r0 r1 r2 r3 : Col → EReal) (h01 : col U r0 ≠ col U r1) (h02 : col U r0 ≠ col U r2)
    (h03 : col U r0 ≠ col U r3) (h12 : col U r1 ≠ col U r2) (h13 : col U r1 ≠ col U r3) (h23 : col U r2 ≠ col U r3) :
    (val (use U r0) r1 = val U r1 ∧ col (use U r0) r1 = col U r1) ∧
    (val (use (use U r0) r1) r2 = val U r2 ∧ col (use (use U r0) r1) r2 = col U r2) ∧
    (val (use (use (use U r0) r1) r2) r3 = val U r3 ∧ col (use (use (use U r0) r1) r2) r3 = col U r3) := by
  have a1 := more_used_one U (col U r0) r1 h01
  have a2 : val (use (use U r0) r1) r2 = val U r2 ∧ col (use (use U r0) r1) r2 = col U r2 := by
    refine more_used ((subset_use _ _).trans (subset_use _ _)) r2 fun h => ?_
    rcases Finset.mem_insert.mp h with h | h
    · exact absurd (h.trans a1.2).symm h12
    · exact (Finset.mem_insert.mp h).resolve_left fun e => h02 e.symm
  refine ⟨a1, a2, more_used ((subset_use _ _).trans ((subset_use _ _).trans (subset_use _ _))) r3 fun h => ?_⟩
  rcases Finset.mem_insert.mp h with h | h
  · exact absurd (h.trans a2.2).symm h23
  rcases Finset.mem_insert.mp h with h | h
  · exact absurd (h.trans a1.2).symm h13
  · exact (Finset.mem_insert.mp h).resolve_left fun e => h03 e.symm

/-- The columns used before row `k`. -/
def usedAt (row : ℕ → Col → EReal) : ℕ → Finset Col
  | 0 => ∅
  | k + 1 => use (usedAt row k) (row k)

/-- The distance matched at row `k`. -/
def matched (row : ℕ → Col → EReal) (k : ℕ) : EReal := val (usedAt row k) (row k)

/-- The least of entries not negative is not negative. -/
theorem val_nonneg {U : Finset Col} {r : Col → EReal} (h : ∀ i, 0 ≤ r i) : 0 ≤ val U r :=
  Finset.le_inf fun i _ => by
    unfold opened
    split
    · exact le_top
    · exact h i

/-- The least column number, as an extended real, of the columns that have `v`: the first column. -/
theorem fold_first {d : Col → EReal} {v : EReal} {j : Col} (hj : d j = v) (h : ∀ i, d i = v → j ≤ i) :
    (Finset.univ.fold min ⊤ fun i : Col => if d i = v then ((i.val : ℝ) : EReal) else ((2048 : ℝ) : EReal)) = ((j.val : ℝ) : EReal) := by
  refine le_antisymm ?_ ?_
  · rw [Finset.fold_min_le]
    exact .inr ⟨j, Finset.mem_univ j, by rw [if_pos hj]⟩
  · rw [Finset.le_fold_min]
    refine ⟨le_top, fun i _ => ?_⟩
    split
    · next e => exact EReal.coe_le_coe_iff.mpr (Nat.cast_le.mpr (h i e))
    · exact EReal.coe_le_coe_iff.mpr (by exact_mod_cast j.isLt.le)

end Cert.Proof.Greedy

end
-- ==== Proof.Value.Steps.lean ====
module

public import proofs.«01_k».proof.Proof.KernelIdeal.Body
public import proofs.«01_k».proof.Proof.Value.Greedy
public import Idealize.ShloMosaic.Lib.Pointwise
public import Idealize.ShloMosaic.PureOps.Ideal
public import Idealize.ShloMosaic.PureOps.IdealRules

/-!
The kernel's vector operations over the extended reals.
-/

@[expose] public section

set_option maxRecDepth 65536

noncomputable section

namespace Cert.Proof.KernelIdeal

open Cert.KernelIdeal Cert.KernelIdeal.Gen
open Idealize.ShloMosaic
open Cert.Proof.Greedy

theorem ofBits_inf : Ideal.ofBits .f32 0x7F800000#32 = ⊤ := by simp [Ideal.ofBits, Ideal.ieee]
theorem ofBits_neg_inf : Ideal.ofBits .f32 0xFF800000#32 = ⊥ := by simp [Ideal.ofBits, Ideal.ieee]

/-- The name of the mask is infinity. -/
theorem used_eq : (consts (F := Ideal)).used = ⊤ :=
  IdealRules.named_const.ideal_named_scalar κ "mask" (φ := .f32) 0x7149F2CA#32 ⊤ rfl

/-- "No column" is the number of columns. -/
theorem none_eq : (consts (F := Ideal)).none = ((2048 : ℝ) : EReal) := by
  show Ideal.ofBits .f32 0x45000000#32 = _
  simp [Ideal.ofBits, Ideal.ieee]
  rw [← EReal.coe_mul]
  norm_num

theorem masked_at (m : FVec Ideal S8x2048 .f32) (s : Vec Ideal S1x8x2048 .f32) (b : Fin 8) (i : Fin 2048) :
    masked m s (ix2 b i) = s (ix3 0 b i) + m (ix2 b i) := by
  pointwise [masked]

theorem least_at (d : FVec Ideal S8x2048 .f32) (b : Fin 8) :
    least d (ix2 b 0) = Finset.univ.fold min ⊤ fun i : Fin 2048 => d (ix2 b i) := by
  pointwise [least]
  rw [ofBits_inf]

theorem iota_at (b : Fin 8) (i : Fin 2048) : (consts (F := Ideal)).iota (ix2 b i) = ((i.val : ℝ) : EReal) := by
  pointwise [consts, k0_pay97]
  show ((((BitVec.ofNat 32 i.val).toInt : ℤ) : ℝ) : EReal) = _
  have h : (BitVec.ofNat 32 i.val).toInt = (i.val : ℤ) := by
    have := i.isLt
    rw [BitVec.toInt_eq_toNat_of_lt (by rw [BitVec.toNat_ofNat]; omega), BitVec.toNat_ofNat]
    omega
  rw [h, Int.cast_natCast]

theorem isAt_at (j : FVec Ideal S8x1 .f32) (b : Fin 8) (i : Fin 2048) :
    isAt consts j (ix2 b i) = BitVec.ofBool (decide (((i.val : ℝ) : EReal) = j (ix2 b 0))) := by
  unfold isAt
  pointwise []
  rw [iota_at]

theorem place_at (d : FVec Ideal S8x2048 .f32) (v : FVec Ideal S8x1 .f32) (b : Fin 8) : place consts d v (ix2 b 0) =
    Finset.univ.fold min ⊤ fun i : Fin 2048 => if d (ix2 b i) = v (ix2 b 0) then ((i.val : ℝ) : EReal) else ((2048 : ℝ) : EReal) := by
  unfold place
  pointwise [least]
  rw [ofBits_inf]
  simp only [iota_at, none_eq]

/-! ## What a vector stands for -/

/-- The vector holds a column of every batch. -/
def ColIs (j : FVec Ideal S8x1 .f32) (c : Fin 8 → Col) : Prop := ∀ b : Fin 8, j (ix2 b 0) = (((c b).val : ℝ) : EReal)

/-- The mask has the columns `U` used up. -/
def MaskIs (m : FVec Ideal S8x2048 .f32) (U : Fin 8 → Finset Col) : Prop := ∀ (b : Fin 8) (i : Col), m (ix2 b i) = if i ∈ U b then ⊤ else 0

/-- The distances of one row, of every batch. -/
structure RowIs (s : Vec Ideal S1x8x2048 .f32) (r : Fin 8 → Col → EReal) : Prop where
  entry : ∀ (b : Fin 8) (i : Col), s (ix3 0 b i) = r b i
  nonneg : ∀ (b : Fin 8) (i : Col), 0 ≤ r b i

theorem col_inj {i j : Col} : ((i.val : ℝ) : EReal) = ((j.val : ℝ) : EReal) ↔ i = j := by
  rw [EReal.coe_eq_coe_iff, Nat.cast_inj, Fin.ext_iff]

theorem masked_is {m : FVec Ideal S8x2048 .f32} {U : Fin 8 → Finset Col} (hm : MaskIs m U) {s : Vec Ideal S1x8x2048 .f32}
    {r : Fin 8 → Col → EReal} (hs : RowIs s r) (b : Fin 8) (i : Col) : masked m s (ix2 b i) = opened (U b) (r b) i := by
  rw [masked_at, hm, hs.entry]
  unfold opened
  split
  · exact EReal.add_top_of_ne_bot (ne_of_gt (lt_of_lt_of_le EReal.bot_lt_zero (hs.nonneg b i)))
  · exact add_zero _

theorem least_is {m : FVec Ideal S8x2048 .f32} {U : Fin 8 → Finset Col} (hm : MaskIs m U) {s : Vec Ideal S1x8x2048 .f32}
    {r : Fin 8 → Col → EReal} (hs : RowIs s r) (b : Fin 8) : least (masked m s) (ix2 b 0) = val (U b) (r b) := by
  rw [least_at]
  simp only [masked_is hm hs]
  rfl

theorem place_is {m : FVec Ideal S8x2048 .f32} {U : Fin 8 → Finset Col} (hm : MaskIs m U) {s : Vec Ideal S1x8x2048 .f32}
    {r : Fin 8 → Col → EReal} (hs : RowIs s r) : ColIs (place consts (masked m s) (least (masked m s))) fun b => col (U b) (r b) := by
  intro b
  rw [place_at, least_is hm hs]
  simp only [masked_is hm hs]
  exact fold_first (opened_col _ _) fun i hi => col_le _ _ i hi

theorem isAt_is {j : FVec Ideal S8x1 .f32} {c : Fin 8 → Col} (hj : ColIs j c) (b : Fin 8) (i : Col) :
    isAt consts j (ix2 b i) = BitVec.ofBool (decide (i = c b)) := by
  rw [isAt_at, hj]
  simp only [col_inj]

theorem ori_ofBool (a b : Bool) : IntOp.ori (BitVec.ofBool a) (BitVec.ofBool b) = BitVec.ofBool (a || b) := by cases a <;> cases b <;> rfl
theorem ori_none (b : Bool) : IntOp.ori 0#1 (BitVec.ofBool b) = BitVec.ofBool b := by cases b <;> rfl
theorem select_ofBool {α : Type} (b : Bool) (x y : α) : Scalar.select (BitVec.ofBool b) x y = if b = true then x else y := by cases b <;> rfl
theorem taken_ofBool (b : Bool) : (Scalar.cmpi .ne (Scalar.extui (BitVec.ofBool b) : BitVec 32) 0#32 = 1#1) = (b = true) := by
  cases b <;> simp <;> decide

theorem after_is {m : FVec Ideal S8x2048 .f32} {U : Fin 8 → Finset Col} (hm : MaskIs m U) {s : Vec Ideal S1x8x2048 .f32}
    {r : Fin 8 → Col → EReal} (hs : RowIs s r) : MaskIs (after consts m s) fun b => use (U b) (r b) := by
  intro b i
  unfold after mark
  pointwise []
  rw [isAt_is (place_is hm hs), used_eq, hm]
  simp only [select_ofBool, use, Finset.mem_insert, decide_eq_true_eq, ← ite_or]

/-- The conditional's number is positive exactly when two columns agree in some batch. -/
theorem taken_clash {j0 j1 j2 j3 : FVec Ideal S8x1 .f32} {c0 c1 c2 c3 : Fin 8 → Col} (h0 : ColIs j0 c0) (h1 : ColIs j1 c1) (h2 : ColIs j2 c2)
    (h3 : ColIs j3 c3) : taken (clash j0 j1 j2 j3) ↔
      ∃ b, c0 b = c1 b ∨ c0 b = c2 b ∨ c0 b = c3 b ∨ c1 b = c2 b ∨ c1 b = c3 b ∨ c2 b = c3 b := by
  unfold taken clash
  pointwise []
  rw [ofBits_neg_inf]
  simp only [h0 _, h1 _, h2 _, h3 _, col_inj, ori_ofBool, ori_none, select_ofBool, taken_ofBool, decide_eq_true_eq]
  rw [Finset.lt_fold_max]
  constructor
  · rintro (h | ⟨x, -, h⟩)
    · exact absurd h (by simp)
    · split at h
      · next e => exact ⟨x.1, by simpa [or_assoc] using e⟩
      · exact absurd h (lt_irrefl 0)
  · rintro ⟨b, h⟩
    refine .inr ⟨(b, 0), Finset.mem_univ _, ?_⟩
    rw [if_pos (by simpa [or_assoc] using h)]
    exact zero_lt_one

/-! ## A group of four rows -/

section Fields

variable (C : Consts Ideal) (m : FVec Ideal S8x2048 .f32) (s0 s1 s2 s3 : Vec Ideal S1x8x2048 .f32)

theorem together_j0 : (together C m s0 s1 s2 s3).j0 = place C (masked m s0) (least (masked m s0)) := rfl
theorem together_j1 : (together C m s0 s1 s2 s3).j1 = place C (masked m s1) (least (masked m s1)) := rfl
theorem together_j2 : (together C m s0 s1 s2 s3).j2 = place C (masked m s2) (least (masked m s2)) := rfl
theorem together_j3 : (together C m s0 s1 s2 s3).j3 = place C (masked m s3) (least (masked m s3)) := rfl
theorem together_v0 : (together C m s0 s1 s2 s3).v0 = least (masked m s0) := rfl
theorem together_v1 : (together C m s0 s1 s2 s3).v1 = least (masked m s1) := rfl
theorem together_v2 : (together C m s0 s1 s2 s3).v2 = least (masked m s2) := rfl
theorem together_v3 : (together C m s0 s1 s2 s3).v3 = least (masked m s3) := rfl
theorem inTurn_j1 : (inTurn C m s0 s1 s2 s3).j1 = place C (masked (after C m s0) s1) (least (masked (after C m s0) s1)) := rfl
theorem inTurn_j2 : (inTurn C m s0 s1 s2 s3).j2 =
    place C (masked (after C (after C m s0) s1) s2) (least (masked (after C (after C m s0) s1) s2)) := rfl
theorem inTurn_j3 : (inTurn C m s0 s1 s2 s3).j3 =
    place C (masked (after C (after C (after C m s0) s1) s2) s3) (least (masked (after C (after C (after C m s0) s1) s2) s3)) := rfl
theorem inTurn_v1 : (inTurn C m s0 s1 s2 s3).v1 = least (masked (after C m s0) s1) := rfl
theorem inTurn_v2 : (inTurn C m s0 s1 s2 s3).v2 = least (masked (after C (after C m s0) s1) s2) := rfl
theorem inTurn_v3 : (inTurn C m s0 s1 s2 s3).v3 = least (masked (after C (after C (after C m s0) s1) s2) s3) := rfl

end Fields

/-- What the loop carries stands for these used columns and these sums. -/
structure StateIs (st : FVec Ideal S8x2048 .f32 × FVec Ideal S8x128 .f32) (U : Fin 8 → Finset Col) (t : Fin 8 → EReal) : Prop where
  mask : MaskIs st.1 U
  total : ∀ (b : Fin 8) (l : Fin 128), st.2 (ix2 b l) = t b

section Group

variable {m : FVec Ideal S8x2048 .f32} {U : Fin 8 → Finset Col} (hm : MaskIs m U) {s0 s1 s2 s3 : Vec Ideal S1x8x2048 .f32}
  {r0 r1 r2 r3 : Fin 8 → Col → EReal} (h0 : RowIs s0 r0) (h1 : RowIs s1 r1) (h2 : RowIs s2 r2) (h3 : RowIs s3 r3)

include hm h0 h1 h2 h3

theorem collides_is : taken (collides consts m s0 s1 s2 s3) ↔
    ∃ b, col (U b) (r0 b) = col (U b) (r1 b) ∨ col (U b) (r0 b) = col (U b) (r2 b) ∨ col (U b) (r0 b) = col (U b) (r3 b)
      ∨ col (U b) (r1 b) = col (U b) (r2 b) ∨ col (U b) (r1 b) = col (U b) (r3 b) ∨ col (U b) (r2 b) = col (U b) (r3 b) := by
  unfold collides
  rw [together_j0, together_j1, together_j2, together_j3]
  exact taken_clash (place_is hm h0) (place_is hm h1) (place_is hm h2) (place_is hm h3)

/-- Without a collision, the rows in turn give in every batch what they give together. -/
theorem no_clash (h : ¬ taken (collides consts m s0 s1 s2 s3)) (b : Fin 8) :
    (val (use (U b) (r0 b)) (r1 b) = val (U b) (r1 b) ∧ col (use (U b) (r0 b)) (r1 b) = col (U b) (r1 b)) ∧
    (val (use (use (U b) (r0 b)) (r1 b)) (r2 b) = val (U b) (r2 b) ∧ col (use (use (U b) (r0 b)) (r1 b)) (r2 b) = col (U b) (r2 b)) ∧
    (val (use (use (use (U b) (r0 b)) (r1 b)) (r2 b)) (r3 b) = val (U b) (r3 b)
      ∧ col (use (use (use (U b) (r0 b)) (r1 b)) (r2 b)) (r3 b) = col (U b) (r3 b)) := by
  rw [collides_is hm h0 h1 h2 h3, not_exists] at h
  have hb := h b
  simp only [not_or] at hb
  exact in_turn (U b) _ _ _ _ hb.1 hb.2.1 hb.2.2.1 hb.2.2.2.1 hb.2.2.2.2.1 hb.2.2.2.2.2

theorem chosen_col1 : ColIs (chosen consts m s0 s1 s2 s3 Four.j1) fun b => col (use (U b) (r0 b)) (r1 b) := by
  unfold chosen pick
  split
  · rw [inTurn_j1]
    exact place_is (after_is hm h0) h1
  · next h =>
    rw [together_j1]
    intro b
    beta_reduce
    rw [(no_clash hm h0 h1 h2 h3 h b).1.2]
    exact place_is hm h1 b

theorem chosen_col2 : ColIs (chosen consts m s0 s1 s2 s3 Four.j2) fun b => col (use (use (U b) (r0 b)) (r1 b)) (r2 b) := by
  unfold chosen pick
  split
  · rw [inTurn_j2]
    exact place_is (after_is (after_is hm h0) h1) h2
  · next h =>
    rw [together_j2]
    intro b
    beta_reduce
    rw [(no_clash hm h0 h1 h2 h3 h b).2.1.2]
    exact place_is hm h2 b

theorem chosen_col3 : ColIs (chosen consts m s0 s1 s2 s3 Four.j3) fun b => col (use (use (use (U b) (r0 b)) (r1 b)) (r2 b)) (r3 b) := by
  unfold chosen pick
  split
  · rw [inTurn_j3]
    exact place_is (after_is (after_is (after_is hm h0) h1) h2) h3
  · next h =>
    rw [together_j3]
    intro b
    beta_reduce
    rw [(no_clash hm h0 h1 h2 h3 h b).2.2.2]
    exact place_is hm h3 b

theorem chosen_val1 (b : Fin 8) : chosen consts m s0 s1 s2 s3 Four.v1 (ix2 b 0) = val (use (U b) (r0 b)) (r1 b) := by
  unfold chosen pick
  split
  · rw [inTurn_v1]
    exact least_is (after_is hm h0) h1 b
  · next h =>
    rw [together_v1, (no_clash hm h0 h1 h2 h3 h b).1.1]
    exact least_is hm h1 b

theorem chosen_val2 (b : Fin 8) : chosen consts m s0 s1 s2 s3 Four.v2 (ix2 b 0) = val (use (use (U b) (r0 b)) (r1 b)) (r2 b) := by
  unfold chosen pick
  split
  · rw [inTurn_v2]
    exact least_is (after_is (after_is hm h0) h1) h2 b
  · next h =>
    rw [together_v2, (no_clash hm h0 h1 h2 h3 h b).2.1.1]
    exact least_is hm h2 b

theorem chosen_val3 (b : Fin 8) : chosen consts m s0 s1 s2 s3 Four.v3 (ix2 b 0) = val (use (use (use (U b) (r0 b)) (r1 b)) (r2 b)) (r3 b) := by
  unfold chosen pick
  split
  · rw [inTurn_v3]
    exact least_is (after_is (after_is (after_is hm h0) h1) h2) h3 b
  · next h =>
    rw [together_v3, (no_clash hm h0 h1 h2 h3 h b).2.2.1]
    exact least_is hm h3 b

end Group

theorem mark_four (i c0 c1 c2 c3 : Col) (V : Finset Col) :
    Scalar.select (IntOp.ori (IntOp.ori (IntOp.ori (BitVec.ofBool (decide (i = c0))) (BitVec.ofBool (decide (i = c1))))
        (BitVec.ofBool (decide (i = c2)))) (BitVec.ofBool (decide (i = c3)))) (⊤ : EReal) (if i ∈ V then ⊤ else 0)
      = if i ∈ insert c3 (insert c2 (insert c1 (insert c0 V))) then ⊤ else 0 := by
  simp only [ori_ofBool, select_ofBool, Finset.mem_insert, Bool.or_eq_true, decide_eq_true_eq, ← ite_or]
  refine if_congr ?_ rfl rfl
  tauto

/-- A group of four rows does four greedy steps in every batch. -/
theorem group_is {st : FVec Ideal S8x2048 .f32 × FVec Ideal S8x128 .f32} {U : Fin 8 → Finset Col} {t : Fin 8 → EReal} (h : StateIs st U t)
    {s0 s1 s2 s3 : Vec Ideal S1x8x2048 .f32} {r0 r1 r2 r3 : Fin 8 → Col → EReal} (h0 : RowIs s0 r0) (h1 : RowIs s1 r1) (h2 : RowIs s2 r2)
    (h3 : RowIs s3 r3) :
    StateIs (group consts st s0 s1 s2 s3) (fun b => use (use (use (use (U b) (r0 b)) (r1 b)) (r2 b)) (r3 b))
      (fun b => t b + (val (U b) (r0 b) + val (use (U b) (r0 b)) (r1 b) + val (use (use (U b) (r0 b)) (r1 b)) (r2 b)
        + val (use (use (use (U b) (r0 b)) (r1 b)) (r2 b)) (r3 b))) := by
  obtain ⟨hm, ht⟩ := h
  constructor
  · intro b i
    unfold group
    pointwise []
    rw [together_j0, isAt_is (place_is hm h0), isAt_is (chosen_col1 hm h0 h1 h2 h3), isAt_is (chosen_col2 hm h0 h1 h2 h3), isAt_is (chosen_col3 hm h0 h1 h2 h3),
      used_eq, hm]
    exact mark_four i _ _ _ _ _
  · intro b l
    unfold group
    pointwise []
    rw [ht, chosen_val1 hm h0 h1 h2 h3, chosen_val2 hm h0 h1 h2 h3, chosen_val3 hm h0 h1 h2 h3,
      together_v0, least_is hm h0]

end Cert.Proof.KernelIdeal

end
-- ==== Proof.Value.Loop.lean ====
module

public import proofs.«01_k».proof.Proof.Value.Steps

/-!
The kernel's whole loop over the extended reals: after trip `k` every batch has done `16 k` greedy steps.
-/

@[expose] public section

set_option maxRecDepth 65536

noncomputable section

namespace Cert.Proof.KernelIdeal

open Cert.KernelIdeal Cert.KernelIdeal.Gen
open Idealize.ShloMosaic
open Cert.Proof.Greedy

/-- The kernel's squared distance of point `k` of the first cloud to point `i` of the second, in batch `b`. -/
def rowOf (x0 x1 x2 : Vec Ideal S2048x8 .f32) (y0 y1 y2 : Vec Ideal S8x2048 .f32) (b : Fin 8) (k : ℕ) (i : Col) : EReal :=
  (x0 (ix2 (Fin.ofNat 2048 k) b) - y0 (ix2 b i)) * (x0 (ix2 (Fin.ofNat 2048 k) b) - y0 (ix2 b i))
    + (x1 (ix2 (Fin.ofNat 2048 k) b) - y1 (ix2 b i)) * (x1 (ix2 (Fin.ofNat 2048 k) b) - y1 (ix2 b i))
    + (x2 (ix2 (Fin.ofNat 2048 k) b) - y2 (ix2 b i)) * (x2 (ix2 (Fin.ofNat 2048 k) b) - y2 (ix2 b i))

/-- A square is not negative, also at infinity. -/
theorem sq_nonneg (a : EReal) : 0 ≤ a * a := by
  induction a with
  | bot => simp
  | top => simp
  | coe x => exact_mod_cast mul_self_nonneg x

/-- Squared distances are not negative. -/
theorem rowOf_nonneg (x0 x1 x2 : Vec Ideal S2048x8 .f32) (y0 y1 y2 : Vec Ideal S8x2048 .f32) (b : Fin 8) (k : ℕ) (i : Col) :
    0 ≤ rowOf x0 x1 x2 y0 y1 y2 b k i :=
  add_nonneg (add_nonneg (sq_nonneg _) (sq_nonneg _)) (sq_nonneg _)

/-- One entry of the buffer: the squared distance of point `q` of the eight to point `i`. -/
theorem dists_at (y0 y1 y2 : Vec Ideal S8x2048 .f32) (p0 p1 p2 : Vec Ideal S8x8 .f32) (q b : Fin 8) (i : Fin 2048) :
    dists (k0_pay98 y0) (k0_pay99 y1) (k0_pay100 y2) p0 p1 p2 (ix3 q b i) =
      (p0 (ix2 q b) - y0 (ix2 b i)) * (p0 (ix2 q b) - y0 (ix2 b i)) + (p1 (ix2 q b) - y1 (ix2 b i)) * (p1 (ix2 q b) - y1 (ix2 b i))
        + (p2 (ix2 q b) - y2 (ix2 b i)) * (p2 (ix2 q b) - y2 (ix2 b i)) := by
  pointwise [dists, k0_pay48, k0_pay98, k0_pay99, k0_pay100]

/-- Row 0 of the buffer, read at an entry. -/
theorem slab0_at (a : Vec Ideal S8x8x2048 .f32) (b : Fin 8) (i : Fin 2048) : slab0 a (ix3 0 b i) = a (ix3 0 b i) := by pointwise [slab0]
/-- Row 1 of the buffer, read at an entry. -/
theorem slab1_at (a : Vec Ideal S8x8x2048 .f32) (b : Fin 8) (i : Fin 2048) : slab1 a (ix3 0 b i) = a (ix3 1 b i) := by pointwise [slab1]
/-- Row 2 of the buffer, read at an entry. -/
theorem slab2_at (a : Vec Ideal S8x8x2048 .f32) (b : Fin 8) (i : Fin 2048) : slab2 a (ix3 0 b i) = a (ix3 2 b i) := by pointwise [slab2]
/-- Row 3 of the buffer, read at an entry. -/
theorem slab3_at (a : Vec Ideal S8x8x2048 .f32) (b : Fin 8) (i : Fin 2048) : slab3 a (ix3 0 b i) = a (ix3 3 b i) := by pointwise [slab3]
/-- Row 4 of the buffer, read at an entry. -/
theorem slab4_at (a : Vec Ideal S8x8x2048 .f32) (b : Fin 8) (i : Fin 2048) : slab4 a (ix3 0 b i) = a (ix3 4 b i) := by pointwise [slab4]
/-- Row 5 of the buffer, read at an entry. -/
theorem slab5_at (a : Vec Ideal S8x8x2048 .f32) (b : Fin 8) (i : Fin 2048) : slab5 a (ix3 0 b i) = a (ix3 5 b i) := by pointwise [slab5]
/-- Row 6 of the buffer, read at an entry. -/
theorem slab6_at (a : Vec Ideal S8x8x2048 .f32) (b : Fin 8) (i : Fin 2048) : slab6 a (ix3 0 b i) = a (ix3 6 b i) := by pointwise [slab6]
/-- Row 7 of the buffer, read at an entry. -/
theorem slab7_at (a : Vec Ideal S8x8x2048 .f32) (b : Fin 8) (i : Fin 2048) : slab7 a (ix3 0 b i) = a (ix3 7 b i) := by pointwise [slab7]

/-- The block holds the eight points of every batch from point `n` on. -/
def BlockIs (p : Vec Ideal S8x8 .f32) (x : Vec Ideal S2048x8 .f32) (n : ℕ) : Prop :=
  ∀ q b : Fin 8, p (ix2 q b) = x (ix2 (Fin.ofNat 2048 (n + q.val)) b)

/-- A number below 2048, as an index. -/
theorem fin_eq {n : ℕ} (h : n < 2048) (k : ℕ) (e : n = k) : (⟨n, h⟩ : Fin 2048) = Fin.ofNat 2048 k := by
  subst e
  exact Fin.ext (Nat.mod_eq_of_lt h).symm

/-- The block loaded before the loop holds the points from 0 on. -/
theorem block0_is (x : Vec Ideal S2048x8 .f32) : BlockIs (block0 x) x 0 := by
  intro q b
  pointwise [block0]
  congr 2
  exact fin_eq _ _ (by omega)

/-- A trip's first load holds the points from `16 k + 8` on. -/
theorem block1_is (k : Fin k0_t1_loop.trips) (x : Vec Ideal S2048x8 .f32) : BlockIs (block1 k x) x (16 * k.val + 8) := by
  intro q b
  pointwise [block1]
  have e := k0_off1_eq k
  congr 2
  · exact fin_eq _ _ (by rw [e]; rfl)
  · exact Fin.ext (by show k0_off1 k 1 + b.val = b.val; rw [e]; exact Nat.zero_add _)

/-- A trip's second load, but for the last trip, holds the points of the next trip. -/
theorem block2_is (k : Fin k0_t1_loop.trips) (x : Vec Ideal S2048x8 .f32) (h : k.val + 1 < 128) : BlockIs (block2 k x) x (16 * (k.val + 1)) := by
  intro q b
  pointwise [block2]
  have e := k0_off2_eq k
  congr 2
  · exact fin_eq _ _ (by rw [e]; show min (16 * k.val + 16) 2040 + q.val = _; omega)
  · exact Fin.ext (by show k0_off2 k 1 + b.val = b.val; rw [e]; exact Nat.zero_add _)

section Loop

variable (x0 x1 x2 : Vec Ideal S2048x8 .f32) (y0 y1 y2 : Vec Ideal S8x2048 .f32)

/-- The buffer holds the distances of the eight points from point `n` on. -/
def BufIs (a : Vec Ideal S8x8x2048 .f32) (n : ℕ) : Prop :=
  ∀ (q b : Fin 8) (i : Col), a (ix3 q b i) = rowOf x0 x1 x2 y0 y1 y2 b (n + q.val) i

/-- Blocks of eight points give a buffer of their distances. -/
theorem dists_is {p0 p1 p2 : Vec Ideal S8x8 .f32} {n : ℕ} (h0 : BlockIs p0 x0 n) (h1 : BlockIs p1 x1 n) (h2 : BlockIs p2 x2 n) :
    BufIs x0 x1 x2 y0 y1 y2 (dists (k0_pay98 y0) (k0_pay99 y1) (k0_pay100 y2) p0 p1 p2) n := by
  intro q b i
  rw [dists_at, h0, h1, h2]
  rfl

/-- The state after `n` greedy steps of every batch. -/
def StateAt (st : FVec Ideal S8x2048 .f32 × FVec Ideal S8x128 .f32) (n : ℕ) : Prop :=
  StateIs st (fun b => usedAt (rowOf x0 x1 x2 y0 y1 y2 b) n) fun b => ∑ k ∈ Finset.range n, matched (rowOf x0 x1 x2 y0 y1 y2 b) k

/-- A group of four rows is four greedy steps. -/
theorem group_step {st : FVec Ideal S8x2048 .f32 × FVec Ideal S8x128 .f32} {n : ℕ} (h : StateAt x0 x1 x2 y0 y1 y2 st n)
    {s0 s1 s2 s3 : Vec Ideal S1x8x2048 .f32} (h0 : ∀ (b : Fin 8) (i : Col), s0 (ix3 0 b i) = rowOf x0 x1 x2 y0 y1 y2 b n i)
    (h1 : ∀ (b : Fin 8) (i : Col), s1 (ix3 0 b i) = rowOf x0 x1 x2 y0 y1 y2 b (n + 1) i)
    (h2 : ∀ (b : Fin 8) (i : Col), s2 (ix3 0 b i) = rowOf x0 x1 x2 y0 y1 y2 b (n + 2) i)
    (h3 : ∀ (b : Fin 8) (i : Col), s3 (ix3 0 b i) = rowOf x0 x1 x2 y0 y1 y2 b (n + 3) i) :
    StateAt x0 x1 x2 y0 y1 y2 (group consts st s0 s1 s2 s3) (n + 4) := by
  have g := group_is h ⟨h0, fun b i => rowOf_nonneg _ _ _ _ _ _ b _ i⟩ ⟨h1, fun b i => rowOf_nonneg _ _ _ _ _ _ b _ i⟩
    ⟨h2, fun b i => rowOf_nonneg _ _ _ _ _ _ b _ i⟩ ⟨h3, fun b i => rowOf_nonneg _ _ _ _ _ _ b _ i⟩
  refine ⟨g.mask, fun b l => (g.total b l).trans ?_⟩
  rw [Finset.sum_range_succ, Finset.sum_range_succ, Finset.sum_range_succ, Finset.sum_range_succ, add_assoc, add_assoc, add_assoc, add_assoc, add_assoc]
  rfl

/-- A buffer of eight rows is eight greedy steps. -/
theorem eight_step {st : FVec Ideal S8x2048 .f32 × FVec Ideal S8x128 .f32} {n : ℕ} (h : StateAt x0 x1 x2 y0 y1 y2 st n)
    {a : Vec Ideal S8x8x2048 .f32} (ha : BufIs x0 x1 x2 y0 y1 y2 a n) : StateAt x0 x1 x2 y0 y1 y2 (eight consts st a) (n + 8) :=
  group_step x0 x1 x2 y0 y1 y2
    (group_step x0 x1 x2 y0 y1 y2 h (fun b i => (slab0_at a b i).trans (ha 0 b i)) (fun b i => (slab1_at a b i).trans (ha 1 b i))
      (fun b i => (slab2_at a b i).trans (ha 2 b i)) (fun b i => (slab3_at a b i).trans (ha 3 b i)))
    (fun b i => (slab4_at a b i).trans (ha 4 b i)) (fun b i => (slab5_at a b i).trans (ha 5 b i))
    (fun b i => (slab6_at a b i).trans (ha 6 b i)) (fun b i => (slab7_at a b i).trans (ha 7 b i))

/-- The loop makes 128 trips. -/
theorem trips_eq : k0_t1_loop.trips = 128 := by decide +kernel

/-- The state before the loop: no column used, no distance summed. -/
theorem start_is : StateAt x0 x1 x2 y0 y1 y2 (k0_pay102, k0_pay103) 0 := by
  constructor
  · intro b i
    pointwise [k0_pay102]
    simp [usedAt]
  · intro b l
    pointwise [k0_pay103]
    simp

/-- Before trip `k`, every batch has done `16 k` steps, and the first buffer holds the next eight rows. -/
theorem carried_is : ∀ k : ℕ, k ≤ 128 →
    StateAt x0 x1 x2 y0 y1 y2 (carried (k0_pay98 y0) (k0_pay99 y1) (k0_pay100 y2) x0 x1 x2 k).st (16 * k) ∧
    (k < 128 → BufIs x0 x1 x2 y0 y1 y2 (carried (k0_pay98 y0) (k0_pay99 y1) (k0_pay100 y2) x0 x1 x2 k).buf (16 * k))
  | 0, _ => ⟨start_is x0 x1 x2 y0 y1 y2, fun _ => dists_is x0 x1 x2 y0 y1 y2 (block0_is x0) (block0_is x1) (block0_is x2)⟩
  | k + 1, hk => by
    obtain ⟨hs, hb⟩ := carried_is k (by omega)
    have hb := hb (by omega)
    have hlt : k < k0_t1_loop.trips := by rw [trips_eq]; omega
    rw [show k + 1 = (⟨k, hlt⟩ : Fin k0_t1_loop.trips).val + 1 from rfl, carried_succ]
    refine ⟨?_, fun h => ?_⟩
    · exact eight_step x0 x1 x2 y0 y1 y2 (eight_step x0 x1 x2 y0 y1 y2 hs hb)
        (dists_is x0 x1 x2 y0 y1 y2 (block1_is ⟨k, hlt⟩ x0) (block1_is ⟨k, hlt⟩ x1) (block1_is ⟨k, hlt⟩ x2))
    · exact dists_is x0 x1 x2 y0 y1 y2 (block2_is ⟨k, hlt⟩ x0 h) (block2_is ⟨k, hlt⟩ x1 h) (block2_is ⟨k, hlt⟩ x2 h)

/-- Every lane of the kernel's block holds its batch's sum of matched distances. -/
theorem sums_at (b : Fin 8) (l : Fin 128) :
    sums x0 x1 x2 y0 y1 y2 (ix2 b l) = ∑ k ∈ Finset.range 2048, matched (rowOf x0 x1 x2 y0 y1 y2 b) k := by
  unfold sums
  rw [trips_eq]
  exact (carried_is x0 x1 x2 y0 y1 y2 128 le_rfl).1.total b l

end Loop

end Cert.Proof.KernelIdeal

end
-- ==== Proof.Value.Result.lean ====
module

public import proofs.«01_k».proof.Proof.KernelIdeal.Run
public import proofs.«01_k».proof.Proof.Value.Loop
public import Idealize.ShloMosaic.Lib.Pipeline.ValueKit
public import Idealize.ShloMosaic.Lib.Claim
public import Idealize.ShloMosaic.Lib.Pointwise
public import Idealize.ShloMosaic.PureOps.Ideal
public import Idealize.ShloMosaic.PureOps.Ideal.Laws

/-!
The kernel's result over the extended reals.
-/

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL.Sem
open Cert.Proof.Greedy

variable (m : (ℓ : Loc nD τ sig) → Buf (Elt Ideal) ℓ) (ρ : Dev nD → PrngReg)

/-- The host's last operations: the mean of the block's first lane. -/
def meanOf (o : FVec Ideal S8x128 .f32) : FVec Ideal S_ .f32 :=
  Host.divf (Host.reduceAdd (shapeCast S8 (extractStridedSlice S8x1 ![0, 0] o slices_S8x128_S8x1_0_0) shapeCasts_S8x1_S8) (constant S_ .f32 0x00000000#32 : FVec Ideal S_ .f32) reducesTo_S8_S_d0 h_S_)
    (constant S_ .f32 0x46800000#32 : FVec Ideal S_ .f32)

/-- The grid has one point. -/
theorem one_point (t : Fin cfg0.N) : t = t0_0 := Subsingleton.elim (α := Fin 1) t t0_0

/-- Window 0 is at the origin. -/
theorem idx0 : ∀ (t : Fin cfg0.N) (a : Fin 2), win0_0.index t a = 0 := by decide +kernel
/-- An entry of window 0 is the same entry of its array. -/
theorem emb0 (t : Fin cfg0.N) (k : Fin 2048) (b : Fin 8) : (win0_0.blk t).view.emb (ix2 k b) = ix2 k b := by
  funext a
  apply Fin.ext
  blk_simp
  exact (congrArg (· * _ + _) (idx0 t a)).trans (by rw [Nat.zero_mul, Nat.zero_add])
/-- What the array of window 0 holds when the kernel starts. -/
theorem entry0 (c : Dev nD) : V m c main_call0_v2 = transpose S2048x8 [1, 0] (shapeCast S8x2048 (extractStridedSlice S8x2048x1 ![0, 0, 0] (m ((c : Thread nD τ).loc main_arg0)) slices_S8x2048x3_S8x2048x1_0_0_0) shapeCasts_S8x2048x1_S8x2048) transposes_S8x2048_S2048x8_1_0 := by
  unfold_abbrev_sides
  after_results
  rfl
/-- The kernel's operand 0 holds the coordinate 0 of the first cloud. -/
theorem x0_is (c : Dev nD) (t : Fin cfg0.N) (k : Fin 2048) (b : Fin 8) : iblk m c 0 t (ix2 k b) = m ((c : Thread nD τ).loc main_arg0) (ix3 b k 0) := by
  unfold iblk
  blk_simp
  rw [emb0, entry0]
  pointwise []

/-- Window 1 is at the origin. -/
theorem idx1 : ∀ (t : Fin cfg0.N) (a : Fin 2), win0_1.index t a = 0 := by decide +kernel
/-- An entry of window 1 is the same entry of its array. -/
theorem emb1 (t : Fin cfg0.N) (k : Fin 2048) (b : Fin 8) : (win0_1.blk t).view.emb (ix2 k b) = ix2 k b := by
  funext a
  apply Fin.ext
  blk_simp
  exact (congrArg (· * _ + _) (idx1 t a)).trans (by rw [Nat.zero_mul, Nat.zero_add])
/-- What the array of window 1 holds when the kernel starts. -/
theorem entry1 (c : Dev nD) : V m c main_call0_v5 = transpose S2048x8 [1, 0] (shapeCast S8x2048 (extractStridedSlice S8x2048x1 ![0, 0, 1] (m ((c : Thread nD τ).loc main_arg0)) slices_S8x2048x3_S8x2048x1_0_0_1) shapeCasts_S8x2048x1_S8x2048) transposes_S8x2048_S2048x8_1_0 := by
  unfold_abbrev_sides
  after_results
  rfl
/-- The kernel's operand 1 holds the coordinate 1 of the first cloud. -/
theorem x1_is (c : Dev nD) (t : Fin cfg0.N) (k : Fin 2048) (b : Fin 8) : iblk m c 1 t (ix2 k b) = m ((c : Thread nD τ).loc main_arg0) (ix3 b k 1) := by
  unfold iblk
  blk_simp
  rw [emb1, entry1]
  pointwise []

/-- Window 2 is at the origin. -/
theorem idx2 : ∀ (t : Fin cfg0.N) (a : Fin 2), win0_2.index t a = 0 := by decide +kernel
/-- An entry of window 2 is the same entry of its array. -/
theorem emb2 (t : Fin cfg0.N) (k : Fin 2048) (b : Fin 8) : (win0_2.blk t).view.emb (ix2 k b) = ix2 k b := by
  funext a
  apply Fin.ext
  blk_simp
  exact (congrArg (· * _ + _) (idx2 t a)).trans (by rw [Nat.zero_mul, Nat.zero_add])
/-- What the array of window 2 holds when the kernel starts. -/
theorem entry2 (c : Dev nD) : V m c main_call0_v8 = transpose S2048x8 [1, 0] (shapeCast S8x2048 (extractStridedSlice S8x2048x1 ![0, 0, 2] (m ((c : Thread nD τ).loc main_arg0)) slices_S8x2048x3_S8x2048x1_0_0_2) shapeCasts_S8x2048x1_S8x2048) transposes_S8x2048_S2048x8_1_0 := by
  unfold_abbrev_sides
  after_results
  rfl
/-- The kernel's operand 2 holds the coordinate 2 of the first cloud. -/
theorem x2_is (c : Dev nD) (t : Fin cfg0.N) (k : Fin 2048) (b : Fin 8) : iblk m c 2 t (ix2 k b) = m ((c : Thread nD τ).loc main_arg0) (ix3 b k 2) := by
  unfold iblk
  blk_simp
  rw [emb2, entry2]
  pointwise []

/-- Window 3 is at the origin. -/
theorem idx3 : ∀ (t : Fin cfg0.N) (a : Fin 2), win0_3.index t a = 0 := by decide +kernel
/-- An entry of window 3 is the same entry of its array. -/
theorem emb3 (t : Fin cfg0.N) (b : Fin 8) (i : Fin 2048) : (win0_3.blk t).view.emb (ix2 b i) = ix2 b i := by
  funext a
  apply Fin.ext
  blk_simp
  exact (congrArg (· * _ + _) (idx3 t a)).trans (by rw [Nat.zero_mul, Nat.zero_add])
/-- What the array of window 3 holds when the kernel starts. -/
theorem entry3 (c : Dev nD) : V m c main_call0_v10 = shapeCast S8x2048 (extractStridedSlice S8x2048x1 ![0, 0, 0] (m ((c : Thread nD τ).loc main_arg1)) slices_S8x2048x3_S8x2048x1_0_0_0) shapeCasts_S8x2048x1_S8x2048 := by
  unfold_abbrev_sides
  rfl
/-- The kernel's operand 3 holds the coordinate 0 of the second cloud. -/
theorem y0_is (c : Dev nD) (t : Fin cfg0.N) (b : Fin 8) (i : Fin 2048) : iblk m c 3 t (ix2 b i) = m ((c : Thread nD τ).loc main_arg1) (ix3 b i 0) := by
  unfold iblk
  blk_simp
  rw [emb3, entry3]
  pointwise []

/-- Window 4 is at the origin. -/
theorem idx4 : ∀ (t : Fin cfg0.N) (a : Fin 2), win0_4.index t a = 0 := by decide +kernel
/-- An entry of window 4 is the same entry of its array. -/
theorem emb4 (t : Fin cfg0.N) (b : Fin 8) (i : Fin 2048) : (win0_4.blk t).view.emb (ix2 b i) = ix2 b i := by
  funext a
  apply Fin.ext
  blk_simp
  exact (congrArg (· * _ + _) (idx4 t a)).trans (by rw [Nat.zero_mul, Nat.zero_add])
/-- What the array of window 4 holds when the kernel starts. -/
theorem entry4 (c : Dev nD) : V m c main_call0_v12 = shapeCast S8x2048 (extractStridedSlice S8x2048x1 ![0, 0, 1] (m ((c : Thread nD τ).loc main_arg1)) slices_S8x2048x3_S8x2048x1_0_0_1) shapeCasts_S8x2048x1_S8x2048 := by
  unfold_abbrev_sides
  rfl
/-- The kernel's operand 4 holds the coordinate 1 of the second cloud. -/
theorem y1_is (c : Dev nD) (t : Fin cfg0.N) (b : Fin 8) (i : Fin 2048) : iblk m c 4 t (ix2 b i) = m ((c : Thread nD τ).loc main_arg1) (ix3 b i 1) := by
  unfold iblk
  blk_simp
  rw [emb4, entry4]
  pointwise []

/-- Window 5 is at the origin. -/
theorem idx5 : ∀ (t : Fin cfg0.N) (a : Fin 2), win0_5.index t a = 0 := by decide +kernel
/-- An entry of window 5 is the same entry of its array. -/
theorem emb5 (t : Fin cfg0.N) (b : Fin 8) (i : Fin 2048) : (win0_5.blk t).view.emb (ix2 b i) = ix2 b i := by
  funext a
  apply Fin.ext
  blk_simp
  exact (congrArg (· * _ + _) (idx5 t a)).trans (by rw [Nat.zero_mul, Nat.zero_add])
/-- What the array of window 5 holds when the kernel starts. -/
theorem entry5 (c : Dev nD) : V m c main_call0_v14 = shapeCast S8x2048 (extractStridedSlice S8x2048x1 ![0, 0, 2] (m ((c : Thread nD τ).loc main_arg1)) slices_S8x2048x3_S8x2048x1_0_0_2) shapeCasts_S8x2048x1_S8x2048 := by
  unfold_abbrev_sides
  rfl
/-- The kernel's operand 5 holds the coordinate 2 of the second cloud. -/
theorem y2_is (c : Dev nD) (t : Fin cfg0.N) (b : Fin 8) (i : Fin 2048) : iblk m c 5 t (ix2 b i) = m ((c : Thread nD τ).loc main_arg1) (ix3 b i 2) := by
  unfold iblk
  blk_simp
  rw [emb5, entry5]
  pointwise []

/-- Window 6 is at the origin. -/
theorem idx6 : ∀ (t : Fin cfg0.N) (a : Fin 2), win0_6.index t a = 0 := by decide +kernel

/-- The kernel's output array is the block of its one point. -/
theorem out_is (c : Dev nD) : (dats m 0 c).arrAt 6 cfg0.N = outsAt m c t0_0 := by
  refine (dats m 0 c).arrAt_eq_of_covers 6 _ (by decide +kernel) fun t hf y => ?_
  blk_simp
  rw [after0_6, one_point t]
  refine congrArg (outsAt m c t0_0) ?_
  funext a
  apply Fin.ext
  blk_simp
  exact ((congrArg (· * _ + _) (idx6 t0_0 a)).trans (by rw [Nat.zero_mul, Nat.zero_add])).symm

/-- The result is the host's last operations on the output array. -/
theorem tail_is (c : Dev nD) : Pipeline.afterTail₀ cfgs (dats m) 0 (V0 m) [hostOps1] c main_v0 = meanOf ((dats m 0 c).arrAt 6 cfg0.N) := by
  unfold Pipeline.afterTail₀
  simp only [List.flatten_cons, List.flatten_nil, List.append_nil]
  after_results
  exact congrArg meanOf (Pipeline.withArrays_arr (cfgs 0).spec launch0.win.arr_inj c (V0 m c) (fun w => (dats m 0 c).arrAt w (cfgs 0).N) 6)

/-- The word of the number of points is 16384. -/
theorem ofBits_count : Ideal.ofBits .f32 0x46800000#32 = ((16384 : ℝ) : EReal) := by
  simp [Ideal.ofBits, Ideal.ieee]
  rw [← EReal.coe_mul]
  norm_num

/-- The host's last operations: the sum over the batches, divided by 16384. -/
theorem meanOf_at (o : FVec Ideal S8x128 .f32) (j : S_.Idx) : meanOf o j = Ideal.div (∑ b : Fin 8, o (ix2 b 0)) ((16384 : ℝ) : EReal) := by
  pointwise [meanOf]
  rw [ofBits_count]

/-- The squared distance of point `k` of the first cloud to point `i` of the second, in batch `b`. -/
def sqDist (x y : Vec Ideal S8x2048x3 .f32) (b : Fin 8) (k : Fin 2048) (i : Col) : EReal :=
  (x (ix3 b k 0) - y (ix3 b i 0)) * (x (ix3 b k 0) - y (ix3 b i 0)) + (x (ix3 b k 1) - y (ix3 b i 1)) * (x (ix3 b k 1) - y (ix3 b i 1))
    + (x (ix3 b k 2) - y (ix3 b i 2)) * (x (ix3 b k 2) - y (ix3 b i 2))

/-- The rows of squared distances. -/
def rows (x y : Vec Ideal S8x2048x3 .f32) (b : Fin 8) (k : ℕ) (i : Col) : EReal := sqDist x y b (Fin.ofNat 2048 k) i

/-- The kernel's distances are those of the two clouds. -/
theorem rowOf_is (c : Dev nD) (t : Fin cfg0.N) (b : Fin 8) (k : ℕ) (i : Col) :
    rowOf (iblk m c 0 t) (iblk m c 1 t) (iblk m c 2 t) (iblk m c 3 t) (iblk m c 4 t) (iblk m c 5 t) b k i =
      rows (m ((c : Thread nD τ).loc main_arg0)) (m ((c : Thread nD τ).loc main_arg1)) b k i := by
  unfold rowOf rows sqDist
  rw [x0_is, x1_is, x2_is, y0_is, y1_is, y2_is]

/-- The kernel's result: the sum over the batches of the matched distances, over the number of points. -/
theorem result_is (c : Dev nD) (j : S_.Idx) :
    Pipeline.afterTail₀ cfgs (dats m) 0 (V0 m) [hostOps1] c main_v0 j = Ideal.div (∑ b : Fin 8, ∑ k ∈ Finset.range 2048,
      matched (rows (m ((c : Thread nD τ).loc main_arg0)) (m ((c : Thread nD τ).loc main_arg1)) b) k) ((16384 : ℝ) : EReal) := by
  rw [tail_is, out_is, meanOf_at]
  unfold outsAt
  simp only [sums_at]
  simp only [show ∀ b, rowOf (iblk m c 0 t0_0) (iblk m c 1 t0_0) (iblk m c 2 t0_0) (iblk m c 3 t0_0) (iblk m c 4 t0_0) (iblk m c 5 t0_0) b =
    rows (m ((c : Thread nD τ).loc main_arg0)) (m ((c : Thread nD τ).loc main_arg1)) b from fun b => funext fun k => funext fun i => rowOf_is m c t0_0 b k i]

/-- The distances are not negative. -/
theorem rows_nonneg (x y : Vec Ideal S8x2048x3 .f32) (b : Fin 8) (k : ℕ) (i : Col) : 0 ≤ rows x y b k i :=
  add_nonneg (add_nonneg (sq_nonneg _) (sq_nonneg _)) (sq_nonneg _)

/-- The run's result, and the arguments as they were. -/
theorem run_value : θ_run defs (onTc (τ := τ) (main (F := Ideal))) ⟨m, fun _ => 0, ρ⟩ (fun r => ∀ c : Dev nD,
    r.2.mem ((c.tc : Thread nD τ).loc main_v0) = Pipeline.afterTail₀ cfgs (dats m) 0 (V0 m) [hostOps1] c main_v0
    ∧ r.2.mem ((c.tc : Thread nD τ).loc main_arg0) = m ((c.tc : Thread nD τ).loc main_arg0)
    ∧ r.2.mem ((c.tc : Thread nD τ).loc main_arg1) = m ((c.tc : Thread nD τ).loc main_arg1)) :=
  (θ_run defs _ _).mono (fun _ h c => ⟨(h.1 c).2 main_v0 (Pipeline.mem_restRefs_of main_v0 (by decide) (by decide)),
    ((h.1 c).2 main_arg0 (Pipeline.mem_restRefs_of main_arg0 (by decide) (by decide))).trans (W_main_arg0 m (dats m) c),
    ((h.1 c).2 main_arg1 (Pipeline.mem_restRefs_of main_arg1 (by decide) (by decide))).trans (W_main_arg1 m (dats m) c)⟩) (run_main m ρ)

end Cert.Proof.KernelIdeal

end
-- ==== Proof.Value.Reference.lean ====
module

public import proofs.«01_k».proof.Proof.Reference.Run
public import proofs.«01_k».proof.Proof.Value.Greedy
public import Idealize.ShloMosaic.Lib.Pointwise
public import Idealize.ShloMosaic.PureOps.Ideal
public import Idealize.ShloMosaic.PureOps.Ideal.Laws
public import Idealize.ShloMosaic.PureOps.Reduce

/-!
The reference's operations over the extended reals: its loop does one greedy step of every batch per trip.
-/

@[expose] public section

set_option maxRecDepth 65536

noncomputable section

namespace Cert.Proof.Reference

open Cert.ReferenceIdeal Cert.ReferenceIdeal.Gen
open Idealize.ShloMosaic
open Cert.Proof.Greedy

/-! ## The first least of a row -/

/-- A pair is not above another: its value is below, or the values are equal and its place is not after. -/
def NotAbove (p q : EReal × BitVec 32) : Prop := p.1 < q.1 ∨ p.1 = q.1 ∧ p.2.toInt ≤ q.2.toInt

/-- A pair is not above itself. -/
theorem NotAbove.refl (p : EReal × BitVec 32) : NotAbove p p := .inr ⟨rfl, le_rfl⟩

/-- The order on pairs is transitive. -/
theorem NotAbove.trans {p q r : EReal × BitVec 32} (h : NotAbove p q) (h' : NotAbove q r) : NotAbove p r := by
  unfold NotAbove at *
  rcases h with h | ⟨h, h2⟩ <;> rcases h' with h' | ⟨h', h2'⟩
  · exact .inl (h.trans h')
  · exact .inl (h' ▸ h)
  · exact .inl (h ▸ h')
  · exact .inr ⟨h.trans h', h2.trans h2'⟩

/-- Or, on bits. -/
theorem bit_or (a b : Bool) : IntOp.ori (BitVec.ofBool a) (BitVec.ofBool b) = BitVec.ofBool (a || b) := by cases a <;> cases b <;> rfl
/-- And, on bits. -/
theorem bit_and (a b : Bool) : IntOp.andi (BitVec.ofBool a) (BitVec.ofBool b) = BitVec.ofBool (a && b) := by cases a <;> cases b <;> rfl
/-- A selection by a bit. -/
theorem bit_select {α : Type} (b : Bool) (x y : α) : Scalar.select (BitVec.ofBool b) x y = if b = true then x else y := by cases b <;> rfl

/-- The reducer keeps the first pair when it is not above the second, else the second. -/
theorem reducer_eq (p q : EReal × BitVec 32) :
    (reducer_argmin_f32_i32 (F := Ideal) p q = p ∨ reducer_argmin_f32_i32 (F := Ideal) p q = q) ∧
    NotAbove (reducer_argmin_f32_i32 (F := Ideal) p q) p ∧ NotAbove (reducer_argmin_f32_i32 (F := Ideal) p q) q := by
  obtain ⟨a, i⟩ := p
  obtain ⟨b, j⟩ := q
  unfold reducer_argmin_f32_i32
  simp only [Ideal.cmpf_def, Ideal.cmp, IntOp.cmpi, BitVec.slt, NotAbove, bit_or, bit_and, bit_select, decide_eq_true_eq, ne_eq, not_true_eq_false, decide_false,
    Bool.or_false, Bool.or_eq_true, Bool.and_eq_true]
  rcases lt_trichotomy a b with h | h | h
  · simp [h]
  · subst h
    by_cases hij : i.toInt < j.toInt
    · simp [hij, hij.le]
    · simp [hij, not_lt.mp hij]
  · simp [h, h.not_gt, h.ne']

/-- The reduction of a list gives one of its pairs, and one that is not above any other. -/
theorem foldl_reducer (l : List (EReal × BitVec 32)) (p : EReal × BitVec 32) :
    (l.foldl (reducer_argmin_f32_i32 (F := Ideal)) p = p ∨ l.foldl (reducer_argmin_f32_i32 (F := Ideal)) p ∈ l) ∧
    NotAbove (l.foldl (reducer_argmin_f32_i32 (F := Ideal)) p) p ∧ ∀ q ∈ l, NotAbove (l.foldl (reducer_argmin_f32_i32 (F := Ideal)) p) q := by
  induction l generalizing p with
  | nil => exact ⟨.inl rfl, .refl p, fun q h => absurd h List.not_mem_nil⟩
  | cons q l ih =>
    obtain ⟨h1, h2, h3⟩ := ih (reducer_argmin_f32_i32 (F := Ideal) p q)
    obtain ⟨r1, r2, r3⟩ := reducer_eq p q
    rw [List.foldl_cons]
    refine ⟨?_, h2.trans r2, fun x hx => ?_⟩
    · rcases h1 with h1 | h1
      · rcases r1 with r1 | r1
        · exact .inl (h1.trans r1)
        · exact .inr (List.mem_cons.mpr (.inl (h1.trans r1)))
      · exact .inr (List.mem_cons.mpr (.inr h1))
    · rcases List.mem_cons.mp hx with rfl | hx
      · exact h2.trans r3
      · exact h3 x hx

/-- The word of infinity is infinity. -/
theorem ofBits_inf : Ideal.ofBits .f32 0x7F800000#32 = ⊤ := by simp [Ideal.ofBits, Ideal.ieee]

/-- A column's word is its number. -/
theorem word_toInt (i : ℕ) (h : i < 2048) : (BitVec.ofNat 32 i).toInt = (i : ℤ) := by
  rw [BitVec.toInt_eq_toNat_of_lt (by rw [BitVec.toNat_ofNat]; omega), BitVec.toNat_ofNat]
  omega

/-- The pairs one batch's reduction folds: a distance with its column's number. -/
theorem mem_fiber (d : FVec Ideal S8x2048 .f32) (b : Fin 8) (p : EReal × BitVec 32) :
    p ∈ Host.argReduceFiber d (iotaInDim S8x2048 32 1) reducesTo_S8x2048_S8_d1 (ix1 b) ↔ ∃ i : Col, p = (d (ix2 b i), BitVec.ofNat 32 i.val) := by
  unfold Host.argReduceFiber
  simp only [List.mem_map, List.mem_filter, decide_eq_true_eq]
  constructor
  · rintro ⟨n, ⟨-, h⟩, rfl⟩
    obtain ⟨k, hk⟩ := (Shape.ReducesTo.fiber_r2_a1 _ _ _).mp h
    refine ⟨k, ?_⟩
    rw [← hk]
    rfl
  · rintro ⟨i, rfl⟩
    refine ⟨S8x2048.rowMajor (ix2 b i), ⟨List.mem_finRange _, ?_⟩, ?_⟩
    · rw [Equiv.symm_apply_apply]
      exact (Shape.ReducesTo.fiber_r2_a1 _ _ _).mpr ⟨i, rfl⟩
    · rw [Equiv.symm_apply_apply]
      rfl

/-- The place is the first column that has the least. -/
theorem placeOf_at (d : FVec Ideal S8x2048 .f32) (b : Fin 8) (U : Finset Col) (r : Col → EReal) (hd : ∀ i, d (ix2 b i) = opened U r i) :
    placeOf d (ix1 b) = BitVec.ofNat 32 (col U r).val := by
  unfold placeOf
  rw [Ideal.argReduce_eq_reduce2, Host.reduce2_eq_foldl_fiber]
  obtain ⟨h1, h2, h3⟩ := foldl_reducer (Host.argReduceFiber d (iotaInDim S8x2048 32 1) reducesTo_S8x2048_S8_d1 (ix1 b)) (⊤, 0#32)
  have hs : ((constant S_ .f32 0x7F800000#32 : FVec Ideal S_ .f32) (Shape.Idx.first h_S_), (constantI S_ 32 0#32) (Shape.Idx.first h_S_)) = ((⊤ : EReal), 0#32) :=
    Prod.ext ofBits_inf rfl
  rw [hs]
  generalize List.foldl (reducer_argmin_f32_i32 (F := Ideal)) (⊤, 0#32) _ = p at h1 h2 h3 ⊢
  have h3 : ∀ i : Col, NotAbove p (opened U r i, BitVec.ofNat 32 i.val) := fun i => by
    rw [← hd]
    exact h3 _ ((mem_fiber d b _).mpr ⟨i, rfl⟩)
  have h4 : ∃ i : Col, p = (opened U r i, BitVec.ofNat 32 i.val) := by
    rcases h1 with rfl | h1
    · refine ⟨0, Prod.ext ?_ rfl⟩
      rcases h3 0 with h | h
      · exact absurd h (not_lt.mpr le_top)
      · exact h.1
    · obtain ⟨i, rfl⟩ := (mem_fiber d b _).mp h1
      exact ⟨i, by rw [hd]⟩
  obtain ⟨j, rfl⟩ := h4
  have hle : ∀ i, opened U r j ≤ opened U r i := fun i => by
    rcases h3 i with h | h
    · exact h.le
    · exact h.1.le
  have hv : val U r = opened U r j := val_unique hle j rfl
  rw [col_unique hv.symm fun i hi => ?_]
  rcases h3 i with h | h
  · exact absurd h (by rw [hi, hv]; exact lt_irrefl _)
  · have := h.2
    rw [word_toInt _ j.isLt, word_toInt _ i.isLt] at this
    exact_mod_cast this

/-- One batch's minimum is the least of its row. -/
theorem leastOf_at (d : FVec Ideal S8x2048 .f32) (b : Fin 8) : leastOf d (ix1 b) = Finset.univ.fold min ⊤ fun i : Fin 2048 => d (ix2 b i) := by
  pointwise [leastOf]
  rw [ofBits_inf]

/-! ## One trip -/

/-- The used columns of every batch, as bits. -/
def UsedIs (u : IVec S8x2048 1) (U : Fin 8 → Finset Col) : Prop := ∀ (b : Fin 8) (i : Col), u (ix2 b i) = BitVec.ofBool (decide (i ∈ U b))

/-- The row with the used columns at infinity, at an entry. -/
theorem unused_at (u : IVec S8x2048 1) (row : FVec Ideal S8x2048 .f32) (b : Fin 8) (i : Col) :
    unused u row (ix2 b i) = Scalar.select (u (ix2 b i)) ⊤ (row (ix2 b i)) := by
  pointwise [unused]
  rw [ofBits_inf]

/-- The bits after a column is marked, at an entry. -/
theorem usedWith_at (u : IVec S8x2048 1) (j : IVec S8 32) (b : Fin 8) (i : Col) :
    usedWith u j (ix2 b i) = IntOp.ori (u (ix2 b i)) (IntOp.cmpi .eq (BitVec.ofNat 32 i.val) (j (ix1 b))) := by
  pointwise [usedWith]

/-- The row that a trip reads is within range. -/
theorem start_word (k : ℕ) (hk : k < 2048) : (min (max (BitVec.ofNat 32 k).toInt 0) ((2047 : ℕ) : Int)).toNat = k := by
  rw [word_toInt k hk]
  omega

/-- The row that trip `k` reads, at an entry. -/
theorem rowAt_at (d : FVec Ideal S2048x8x2048 .f32) (k : ℕ) (hk : k < 2048) (b : Fin 8) (i : Col) :
    rowAt d (fun _ => BitVec.ofNat 32 k) (ix2 b i) = d (ix3 ⟨k, hk⟩ b i) := by
  pointwise [rowAt]
  congr 2
  · exact Fin.ext (start_word k hk)
  · exact Fin.ext (Nat.zero_add _)
  · exact Fin.ext (Nat.zero_add _)

/-- The matched distances after trip `k` has written its own, at an entry. -/
theorem written_at (out : FVec Ideal S2048x8 .f32) (v : FVec Ideal S8 .f32) (k : ℕ) (hk : k < 2048) (n : Fin 2048) (b : Fin 8) :
    written out v (fun _ => BitVec.ofNat 32 k) (ix2 n b) = if n.val = k then v (ix1 b) else out (ix2 n b) := by
  pointwise [written]
  have e0 : Host.clampedStart S2048x8 S1x8 updateFits_S2048x8_S1x8.1
      (fun a => ((![fun _ => BitVec.ofNat 32 k, constantI S_ 32 0#32] : Fin 2 → IVec S_ 32) a (Shape.Idx.first h_S_)).toInt) 0 = k := start_word k hk
  have e1 : Host.clampedStart S2048x8 S1x8 updateFits_S2048x8_S1x8.1
      (fun a => ((![fun _ => BitVec.ofNat 32 k, constantI S_ 32 0#32] : Fin 2 → IVec S_ 32) a (Shape.Idx.first h_S_)).toInt) 1 = 0 := rfl
  by_cases h : n.val = k
  · rw [if_pos h, dif_pos ⟨⟨e0.le.trans h.ge, h.le.trans_lt (by rw [e0]; exact Nat.lt_succ_self k)⟩, e1.le.trans (Nat.zero_le _)⟩]
    congr 2
  · rw [if_neg h, dif_neg]
    rintro ⟨⟨h1, h2⟩, -⟩
    rw [e0] at h1 h2
    omega

/-- One distance: the sum of the three squared differences. -/
theorem distances_at (x y : FVec Ideal S8x2048x3 .f32) (k : Fin 2048) (b : Fin 8) (i : Col) :
    distances x y (ix3 k b i) = (x (ix3 b k 0) - y (ix3 b i 0)) * (x (ix3 b k 0) - y (ix3 b i 0))
      + (x (ix3 b k 1) - y (ix3 b i 1)) * (x (ix3 b k 1) - y (ix3 b i 1)) + (x (ix3 b k 2) - y (ix3 b i 2)) * (x (ix3 b k 2) - y (ix3 b i 2)) := by
  pointwise [distances]
  rw [Fin.sum_univ_three]

/-- The word of the number of rows is 2048. -/
theorem ofBits_rows : Ideal.ofBits .f32 0x45000000#32 = ((2048 : ℝ) : EReal) := by
  simp [Ideal.ofBits, Ideal.ieee]
  rw [← EReal.coe_mul]
  norm_num

/-- The word of the number of batches is 8. -/
theorem ofBits_batches : Ideal.ofBits .f32 0x41000000#32 = ((8 : ℝ) : EReal) := by
  simp [Ideal.ofBits, Ideal.ieee]
  rw [← EReal.coe_mul]
  norm_num

/-- The last operations: the mean of the means. -/
theorem mean_at (out : FVec Ideal S2048x8 .f32) (j : S_.Idx) :
    mean out j = Ideal.div (∑ b : Fin 8, Ideal.div (∑ n : Fin 2048, out (ix2 n b)) ((2048 : ℝ) : EReal)) ((8 : ℝ) : EReal) := by
  pointwise [mean]
  rw [ofBits_rows, ofBits_batches]

/-! ## The loop -/

/-- The state after `k` greedy steps of every batch over the distances `r`. -/
structure StateAt (s : IVec S8x2048 1 × FVec Ideal S2048x8 .f32) (r : Fin 8 → ℕ → Col → EReal) (k : ℕ) : Prop where
  used : UsedIs s.1 fun b => usedAt (r b) k
  out : ∀ (n : Fin 2048) (b : Fin 8), n.val < k → s.2 (ix2 n b) = matched (r b) n.val

/-- Columns with equal words are equal. -/
theorem word_inj {i j : Col} : BitVec.ofNat 32 i.val = BitVec.ofNat 32 j.val ↔ i = j := by
  refine ⟨fun h => Fin.ext ?_, fun h => by rw [h]⟩
  have := congrArg BitVec.toNat h
  rw [BitVec.toNat_ofNat, BitVec.toNat_ofNat] at this
  have := i.isLt
  have := j.isLt
  omega

/-- Comparison of words is comparison of columns. -/
theorem same_word (i j : Col) : IntOp.cmpi .eq (BitVec.ofNat 32 i.val) (BitVec.ofNat 32 j.val) = BitVec.ofBool (decide (i = j)) := by
  have h : (BitVec.ofNat 32 i.val == BitVec.ofNat 32 j.val) = decide (i = j) := by
    rw [Bool.eq_iff_iff, beq_iff_eq, decide_eq_true_eq, word_inj]
  exact congrArg BitVec.ofBool h

/-- The loop's counter is the trip's number. -/
theorem counter (k : ℕ) : Scf.iv 0#32 1#32 k = BitVec.ofNat 32 k := by
  simp [Scf.iv]

/-- Before trip `k` every batch has done `k` greedy steps. -/
theorem state_is (d : FVec Ideal S2048x8x2048 .f32) (r : Fin 8 → ℕ → Col → EReal) (hr : ∀ (k : Fin 2048) (b : Fin 8) (i : Col), d (ix3 k b i) = r b k.val i) :
    ∀ k : ℕ, k ≤ 2048 → StateAt (stateAt d k) r k
  | 0, _ => ⟨fun b i => by pointwise [stateAt, noneUsed]; simp [usedAt], fun n b h => absurd h (Nat.not_lt_zero _)⟩
  | k + 1, hk => by
    obtain ⟨hu, ho⟩ := state_is d r hr k (by omega)
    have hrow : ∀ (b : Fin 8) (i : Col), unused (stateAt d k).1 (rowAt d fun _ => Scf.iv 0#32 1#32 k) (ix2 b i) = opened (usedAt (r b) k) (r b k) i := fun b i => by
      rw [unused_at, counter, rowAt_at d k (by omega), hu, hr, bit_select]
      simp only [decide_eq_true_eq, opened]
    refine ⟨fun b i => ?_, fun n b hn => ?_⟩
    · show usedWith (stateAt d k).1 (placeOf _) (ix2 b i) = _
      rw [usedWith_at, hu, placeOf_at _ b _ _ (hrow b)]
      rw [same_word, bit_or, Bool.or_comm, ← Bool.decide_or]
      simp only [usedAt, use, Finset.mem_insert]
    · show written (stateAt d k).2 (leastOf _) _ (ix2 n b) = _
      rw [counter, written_at _ _ k (by omega)]
      split
      · next h =>
        rw [leastOf_at, h, show (fun i : Fin 2048 => unused (stateAt d k).1 (rowAt d fun _ => BitVec.ofNat 32 k) (ix2 b i)) = opened (usedAt (r b) k) (r b k) from
          funext fun i => by rw [← counter k]; exact hrow b i]
        rfl
      · exact ho n b (by omega)

/-- The reference's result over the matched distances. -/
theorem mean_is (d : FVec Ideal S2048x8x2048 .f32) (r : Fin 8 → ℕ → Col → EReal) (hr : ∀ (k : Fin 2048) (b : Fin 8) (i : Col), d (ix3 k b i) = r b k.val i) (j : S_.Idx) :
    mean (stateAt d 2048).2 j = Ideal.div (∑ b : Fin 8, Ideal.div (∑ n ∈ Finset.range 2048, matched (r b) n) ((2048 : ℝ) : EReal)) ((8 : ℝ) : EReal) := by
  rw [mean_at]
  simp only [fun (n : Fin 2048) (b : Fin 8) => (state_is d r hr 2048 le_rfl).out n b n.isLt]
  simp only [fun b : Fin 8 => Fin.sum_univ_eq_sum_range (fun n => matched (r b) n) 2048]

end Cert.Proof.Reference

end
-- ==== Proof.Value.Equal.lean ====
module

public import proofs.«01_k».proof.Proof.Value.Result
public import proofs.«01_k».proof.Proof.Value.Reference

/-!
The kernel's mean and the reference's are the same number.
-/

@[expose] public section

noncomputable section

namespace Cert.Proof

open Idealize.ShloMosaic
open Cert.Proof.Greedy

/-- A mean of eight means, of numbers not negative, is the mean of all. -/
theorem mean_of_means (t : Fin 8 → EReal) (h : ∀ b, 0 ≤ t b) :
    Ideal.div (∑ b : Fin 8, t b) ((16384 : ℝ) : EReal) = Ideal.div (∑ b : Fin 8, Ideal.div (t b) ((2048 : ℝ) : EReal)) ((8 : ℝ) : EReal) := by
  simp only [Ideal.div_coe (by norm_num : (16384 : ℝ) ≠ 0), Ideal.div_coe (by norm_num : (2048 : ℝ) ≠ 0), Ideal.div_coe (by norm_num : (8 : ℝ) ≠ 0)]
  have e : ∀ (s : Finset (Fin 8)), (∑ b ∈ s, t b * ((1 / 2048 : ℝ) : EReal)) = (∑ b ∈ s, t b) * ((1 / 2048 : ℝ) : EReal) := fun s => by
    induction s using Finset.induction_on with
    | empty => simp
    | insert a s ha ih =>
      rw [Finset.sum_insert ha, Finset.sum_insert ha, ih, EReal.right_distrib_of_nonneg (h a) (Finset.sum_nonneg fun b _ => h b)]
  rw [e, mul_assoc, ← EReal.coe_mul]
  norm_num

/-- The reference's result over the arguments `x` and `y` is the kernel's. -/
theorem reference_is (x y : FVec Ideal Cert.ReferenceIdeal.S8x2048x3 .f32) (j : Cert.ReferenceIdeal.S_.Idx) :
    Reference.mean (Reference.stateAt (Reference.distances x y) 2048).2 j =
      Ideal.div (∑ b : Fin 8, ∑ k ∈ Finset.range 2048, matched (KernelIdeal.rows x y b) k) ((16384 : ℝ) : EReal) := by
  have hr : ∀ (k : Fin 2048) (b : Fin 8) (i : Col), Reference.distances x y (ix3 k b i) = KernelIdeal.rows x y b k.val i := fun k b i => by
    have e : Fin.ofNat 2048 k.val = k := Fin.ext (Nat.mod_eq_of_lt k.isLt)
    unfold KernelIdeal.rows
    rw [Reference.distances_at, e]
    rfl
  rw [Reference.mean_is _ (KernelIdeal.rows x y) hr]
  exact (mean_of_means (fun b => ∑ k ∈ Finset.range 2048, matched (KernelIdeal.rows x y b) k)
    fun b => Finset.sum_nonneg fun k _ => val_nonneg fun i => KernelIdeal.rows_nonneg x y b k i).symm

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Kernel.Run
public import proofs.«01_k».proof.Proof.KernelIdeal.Run
public import proofs.«01_k».proof.Proof.Reference.Run
public import proofs.«01_k».proof.Proof.Value.Result
public import proofs.«01_k».proof.Proof.Value.Reference
public import proofs.«01_k».proof.Proof.Value.Equal

/-!
The claims, put together: the two frames of the kernel, the frame of the reference, the idealization, and the equality of
the two results over the extended reals.
-/

@[expose] public section

noncomputable section

namespace Cert.Proof

open Idealize.ShloMosaic Idealize.SL.Sem

/-- From memories that agree on the arguments, the kernel and the reference end with equal results. -/
theorem equal_results : Cert.algebraic_KernelIdeal_ReferenceIdeal (hKernelIdeal := Cert.KernelIdeal.Gen.facts) (hReferenceIdeal := Cert.ReferenceIdeal.Gen.facts) :=
  fun m g m' g' _ hagree => ⟨_, Cert.Proof.KernelIdeal.run_value m g,
    (θ_run _ _ _).mono (fun r h c => ⟨(h c).1.trans (funext fun j => by
      rw [KernelIdeal.result_is, Reference.distOf, (hagree c).1, (hagree c).2]
      exact reference_is _ _ j), (h c).2⟩) (Cert.Proof.Reference.run m' g')⟩

/-- All five claims hold. -/
theorem claim : Cert.Claim := by
  refine ⟨Cert.Kernel.Gen.facts, Cert.KernelIdeal.Gen.facts, Cert.ReferenceIdeal.Gen.facts, ?_, ?_, ?_, ?_, equal_results⟩
  · exact fun m g _ => Cert.Proof.Kernel.frame m g
  · exact fun m g _ => Cert.Proof.KernelIdeal.frame m g
  · exact fun m g _ => (θ_run _ _ _).mono
      (fun r h => ⟨fun c => (h c).2, Idealize.ShloMosaic.sem_eq_zero_of_no_sems (by decide) r.2⟩) (Cert.Proof.Reference.run m g)
  · exact IdealRules.named_const.statement Cert.KernelIdeal.κ "mask" .f32 0x7149F2CA#32 ⊤ rfl

end Cert.Proof

end
